-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_w2_finite [hPre_w2_finite : Cert.Pre_w2_finite.Facts] (m : (ℓ : Loc Cert.KernelIdeal.nD Cert.KernelIdeal.τ Cert.KernelIdeal.sig) → Buf (Elt Ideal) ℓ) : Prop :=
  ∀ c : Dev Cert.KernelIdeal.nD,
    (Cert.Pre_w2_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_w2_finite [hPre_w2_finite : Cert.Pre_w2_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_w2_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_w2_finite [hKernelIdeal : Cert.KernelIdeal.Facts] [hPre_w2_finite : Cert.Pre_w2_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_w2_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_w2_finite [hReferenceIdeal : Cert.ReferenceIdeal.Facts] [hPre_w2_finite : Cert.Pre_w2_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_w2_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "inv_sqrt_h" .f32 0x3D13CD3A#32 (((Real.sqrt 768)⁻¹ : ℝ) : EReal)

def algebraic_KernelIdeal_ReferenceIdeal_pre_w2_finite [hKernelIdeal : Cert.KernelIdeal.Facts] [hReferenceIdeal : Cert.ReferenceIdeal.Facts] [hPre_w2_finite : Cert.Pre_w2_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_w2_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v284) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_w2_finite : Cert.Pre_w2_finite.Facts),
    quiescent_Kernel (hKernel := hKernel)
    ∧ quiescent_KernelIdeal (hKernelIdeal := hKernelIdeal)
    ∧ quiescent_KernelIdeal_pre_w2_finite (hKernelIdeal := hKernelIdeal) (hPre_w2_finite := hPre_w2_finite)
    ∧ quiescent_ReferenceIdeal (hReferenceIdeal := hReferenceIdeal)
    ∧ quiescent_ReferenceIdeal_pre_w2_finite (hReferenceIdeal := hReferenceIdeal) (hPre_w2_finite := hPre_w2_finite)
    ∧ preserves_Kernel_KernelIdeal
    ∧ algebraic_KernelIdeal_ReferenceIdeal_pre_w2_finite (hKernelIdeal := hKernelIdeal) (hReferenceIdeal := hReferenceIdeal) (hPre_w2_finite := hPre_w2_finite)
-- ==== Pre_w2_finite.lean ====
abbrev S1x1000x768 : Shape := ⟨3, ![1, 1000, 768]⟩
abbrev S1x1000x4 : Shape := ⟨3, ![1, 1000, 4]⟩
abbrev S768 : Shape := ⟨1, ![768]⟩
abbrev S768x768 : Shape := ⟨2, ![768, 768]⟩
abbrev S18x1024 : Shape := ⟨2, ![18, 1024]⟩
abbrev S1024 : Shape := ⟨1, ![1024]⟩
abbrev S1024x1 : Shape := ⟨2, ![1024, 1]⟩
abbrev S1 : Shape := ⟨1, ![1]⟩
abbrev S_ : Shape := ⟨0, ![]⟩

class Facts : Prop where
  bcast_S_S1024x1 : S_.BroadcastsInDim S1024x1 (![] : Fin 0 → Fin S1024x1.rank)

variable [Facts]

def fn {F : FTy → Type} [FloatOps F] (main_arg0 : FVec F S1x1000x768 .f32) (main_arg1 : FVec F S1x1000x4 .f32) (main_arg2 : FVec F S768 .f32) (main_arg3 : FVec F S768 .f32) (main_arg4 : FVec F S768x768 .f32) (main_arg5 : FVec F S768 .f32) (main_arg6 : FVec F S768x768 .f32) (main_arg7 : FVec F S768x768 .f32) (main_arg8 : FVec F S18x1024 .f32) (main_arg9 : FVec F S1024 .f32) (main_arg10 : FVec F S1024x1 .f32) (main_arg11 : FVec F S1 .f32) : IVec S1024x1 1 :=
  let main_v0 : FVec F S1024x1 .f32 := Host.absf main_arg10
  let main_cst : FVec F S_ .f32 := constant S_ .f32 0x7F800000#32
  let main_v1 : FVec F S1024x1 .f32 := broadcastInDim S1024x1 ![] bcast_S_S1024x1 main_cst
  let main_v2 : IVec S1024x1 1 := cmpf .olt main_v0 main_v1
  main_v2
-- ==== Kernel.lean ====
abbrev S1x1000x768 : Shape := ⟨3, ![1, 1000, 768]⟩
abbrev S1x1000x4 : Shape := ⟨3, ![1, 1000, 4]⟩
abbrev S768 : Shape := ⟨1, ![768]⟩
abbrev S768x768 : Shape := ⟨2, ![768, 768]⟩
abbrev S18x1024 : Shape := ⟨2, ![18, 1024]⟩
abbrev S1024 : Shape := ⟨1, ![1024]⟩
abbrev S1024x1 : Shape := ⟨2, ![1024, 1]⟩
abbrev S1 : Shape := ⟨1, ![1]⟩
abbrev S1x4 : Shape := ⟨2, ![1, 4]⟩
abbrev S1000x768 : Shape := ⟨2, ![1000, 768]⟩
abbrev S_ : Shape := ⟨0, ![]⟩
abbrev S1024x768 : Shape := ⟨2, ![1024, 768]⟩
abbrev S1x1x1x4 : Shape := ⟨4, ![1, 1, 1, 4]⟩
abbrev S24x1x1x4 : Shape := ⟨4, ![24, 1, 1, 4]⟩
abbrev S24x4 : Shape := ⟨2, ![24, 4]⟩
abbrev S1000x4 : Shape := ⟨2, ![1000, 4]⟩
abbrev S1024x4 : Shape := ⟨2, ![1024, 4]⟩
abbrev S4x1024 : Shape := ⟨2, ![4, 1024]⟩
abbrev S1024x18 : Shape := ⟨2, ![1024, 18]⟩
abbrev S1024x19 : Shape := ⟨2, ![1024, 19]⟩
abbrev S768x2304 : Shape := ⟨2, ![768, 2304]⟩
abbrev S1x768 : Shape := ⟨2, ![1, 768]⟩
abbrev S1x1 : Shape := ⟨2, ![1, 1]⟩
abbrev S1024x1024 : Shape := ⟨2, ![1024, 1024]⟩
abbrev S8x4 : Shape := ⟨2, ![8, 4]⟩
abbrev S8x768 : Shape := ⟨2, ![8, 768]⟩
abbrev S8x1024 : Shape := ⟨2, ![8, 1024]⟩
abbrev S1x1024 : Shape := ⟨2, ![1, 1024]⟩
abbrev S8x1 : Shape := ⟨2, ![8, 1]⟩
abbrev S19x1024 : Shape := ⟨2, ![19, 1024]⟩
abbrev S512x1024 : Shape := ⟨2, ![512, 1024]⟩
abbrev S256x1024 : Shape := ⟨2, ![256, 1024]⟩
abbrev S128x1024 : Shape := ⟨2, ![128, 1024]⟩
abbrev S64x1024 : Shape := ⟨2, ![64, 1024]⟩
abbrev S32x1024 : Shape := ⟨2, ![32, 1024]⟩
abbrev S16x1024 : Shape := ⟨2, ![16, 1024]⟩
abbrev S1000x1000 : Shape := ⟨2, ![1000, 1000]⟩
abbrev S1x1000x1000 : Shape := ⟨3, ![1, 1000, 1000]⟩

abbrev nBuf : Space → Nat
  | .hbm => 66
  | .vmem => 21
  | .smem => 0
  | _ => 0

abbrev bufTy : (tb : Table) → Fin (tcTables nBuf tb) → BufTy
  | .hbm, ⟨0, _⟩ => ⟨S1x1000x768, .f32⟩
  | .hbm, ⟨1, _⟩ => ⟨S1x1000x4, .f32⟩
  | .hbm, ⟨2, _⟩ => ⟨S768, .f32⟩
  | .hbm, ⟨3, _⟩ => ⟨S768, .f32⟩
  | .hbm, ⟨4, _⟩ => ⟨S768x768, .f32⟩
  | .hbm, ⟨5, _⟩ => ⟨S768, .f32⟩
  | .hbm, ⟨6, _⟩ => ⟨S768x768, .f32⟩
  | .hbm, ⟨7, _⟩ => ⟨S768x768, .f32⟩
  | .hbm, ⟨8, _⟩ => ⟨S18x1024, .f32⟩
  | .hbm, ⟨9, _⟩ => ⟨S1024, .f32⟩
  | .hbm, ⟨10, _⟩ => ⟨S1024x1, .f32⟩
  | .hbm, ⟨11, _⟩ => ⟨S1, .f32⟩
  | .hbm, ⟨12, _⟩ => ⟨S1x4, .f32⟩
  | .hbm, ⟨13, _⟩ => ⟨S1000x768, .f32⟩
  | .hbm, ⟨14, _⟩ => ⟨S_, .i32⟩
  | .hbm, ⟨15, _⟩ => ⟨S_, .f32⟩
  | .hbm, ⟨16, _⟩ => ⟨S1024x768, .f32⟩
  | .hbm, ⟨17, _⟩ => ⟨S1024x768, .bf16⟩
  | .hbm, ⟨18, _⟩ => ⟨S1x1x1x4, .f32⟩
  | .hbm, ⟨19, _⟩ => ⟨S24x1x1x4, .f32⟩
  | .hbm, ⟨20, _⟩ => ⟨S24x4, .f32⟩
  | .hbm, ⟨21, _⟩ => ⟨S1000x4, .f32⟩
  | .hbm, ⟨22, _⟩ => ⟨S1024x4, .f32⟩
  | .hbm, ⟨23, _⟩ => ⟨S4x1024, .f32⟩
  | .hbm, ⟨24, _⟩ => ⟨S1024, .f32⟩
  | .hbm, ⟨25, _⟩ => ⟨S1024, .f32⟩
  | .hbm, ⟨26, _⟩ => ⟨S1024x18, .f32⟩
  | .hbm, ⟨27, _⟩ => ⟨S1024x1, .f32⟩
  | .hbm, ⟨28, _⟩ => ⟨S1024x18, .f32⟩
  | .hbm, ⟨29, _⟩ => ⟨S1024x18, .f32⟩
  | .hbm, ⟨30, _⟩ => ⟨S1024, .f32⟩
  | .hbm, ⟨31, _⟩ => ⟨S1024x1, .f32⟩
  | .hbm, ⟨32, _⟩ => ⟨S1024x19, .f32⟩
  | .hbm, ⟨33, _⟩ => ⟨S_, .f32⟩
  | .hbm, ⟨34, _⟩ => ⟨S1024x19, .f32⟩
  | .hbm, ⟨35, _⟩ => ⟨S1024x19, .f32⟩
  | .hbm, ⟨36, _⟩ => ⟨S1024x19, .fp8e4m3⟩
  | .hbm, ⟨37, _⟩ => ⟨S_, .f32⟩
  | .hbm, ⟨38, _⟩ => ⟨S1024, .f32⟩
  | .hbm, ⟨39, _⟩ => ⟨S1024, .i1⟩
  | .hbm, ⟨40, _⟩ => ⟨S_, .f32⟩
  | .hbm, ⟨41, _⟩ => ⟨S_, .f32⟩
  | .hbm, ⟨42, _⟩ => ⟨S1024, .f32⟩
  | .hbm, ⟨43, _⟩ => ⟨S1024, .f32⟩
  | .hbm, ⟨44, _⟩ => ⟨S1024, .f32⟩
  | .hbm, ⟨45, _⟩ => ⟨S_, .f32⟩
  | .hbm, ⟨46, _⟩ => ⟨S1024, .f32⟩
  | .hbm, ⟨47, _⟩ => ⟨S1024, .f32⟩
  | .hbm, ⟨48, _⟩ => ⟨S1024x1, .f32⟩
  | .hbm, ⟨49, _⟩ => ⟨S1024x1, .bf16⟩
  | .hbm, ⟨50, _⟩ => ⟨S768x2304, .f32⟩
  | .hbm, ⟨51, _⟩ => ⟨S768x2304, .bf16⟩
  | .hbm, ⟨52, _⟩ => ⟨S1x768, .f32⟩
  | .hbm, ⟨53, _⟩ => ⟨S1x768, .f32⟩
  | .hbm, ⟨54, _⟩ => ⟨S1x768, .f32⟩
  | .hbm, ⟨55, _⟩ => ⟨S768x768, .bf16⟩
  | .hbm, ⟨56, _⟩ => ⟨S768x768, .bf16⟩
  | .hbm, ⟨57, _⟩ => ⟨S768x768, .bf16⟩
  | .hbm, ⟨58, _⟩ => ⟨S1024x768, .bf16⟩
  | .hbm, ⟨59, _⟩ => ⟨S1024x768, .bf16⟩
  | .hbm, ⟨60, _⟩ => ⟨S1x1, .f32⟩
  | .hbm, ⟨61, _⟩ => ⟨S_, .i32⟩
  | .hbm, ⟨62, _⟩ => ⟨S1x1, .i32⟩
  | .hbm, ⟨63, _⟩ => ⟨S1024x1024, .f32⟩
  | .hbm, ⟨64, _⟩ => ⟨S1000x1000, .f32⟩
  | .hbm, ⟨65, _⟩ => ⟨S1x1000x1000, .f32⟩
  | .local _ .vmem, ⟨0, _⟩ => ⟨S1024x768, .bf16⟩
  | .local _ .vmem, ⟨1, _⟩ => ⟨S1x768, .f32⟩
  | .local _ .vmem, ⟨2, _⟩ => ⟨S1x768, .f32⟩
  | .local _ .vmem, ⟨3, _⟩ => ⟨S768x768, .bf16⟩
  | .local _ .vmem, ⟨4, _⟩ => ⟨S1x768, .f32⟩
  | .local _ .vmem, ⟨5, _⟩ => ⟨S768x768, .bf16⟩
  | .local _ .vmem, ⟨6, _⟩ => ⟨S768x768, .bf16⟩
  | .local _ .vmem, ⟨7, _⟩ => ⟨S1024x768, .bf16⟩
  | .local _ .vmem, ⟨8, _⟩ => ⟨S1024x768, .bf16⟩
  | .local _ .vmem, ⟨9, _⟩ => ⟨S8x4, .f32⟩
  | .local _ .vmem, ⟨10, _⟩ => ⟨S8x4, .f32⟩
  | .local _ .vmem, ⟨11, _⟩ => ⟨S4x1024, .f32⟩
  | .local _ .vmem, ⟨12, _⟩ => ⟨S8x768, .bf16⟩
  | .local _ .vmem, ⟨13, _⟩ => ⟨S8x768, .bf16⟩
  | .local _ .vmem, ⟨14, _⟩ => ⟨S1024x768, .bf16⟩
  | .local _ .vmem, ⟨15, _⟩ => ⟨S1024x19, .fp8e4m3⟩
  | .local _ .vmem, ⟨16, _⟩ => ⟨S1024x1, .bf16⟩
  | .local _ .vmem, ⟨17, _⟩ => ⟨S1x1, .f32⟩
  | .local _ .vmem, ⟨18, _⟩ => ⟨S1x1, .i32⟩
  | .local _ .vmem, ⟨19, _⟩ => ⟨S8x1024, .f32⟩
  | .local _ .vmem, ⟨20, _⟩ => ⟨S8x1024, .f32⟩
  | _, _ => ⟨S1x1000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_c : Ref sig .tc := ⟨.hbm, 14, rfl⟩
abbrev main_call0_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_0 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_1 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_cst_3 : Ref sig .tc := ⟨.hbm, 41, rfl⟩
abbrev main_call1_v0 : Ref sig .tc := ⟨.hbm, 42, rfl⟩
abbrev main_call1_v1 : Ref sig .tc := ⟨.hbm, 43, rfl⟩
abbrev main_v23 : Ref sig .tc := ⟨.hbm, 44, rfl⟩
abbrev main_cst_4 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36_0 : Ref sig .tc := ⟨.hbm, 58, rfl⟩
abbrev main_v36_1 : Ref sig .tc := ⟨.hbm, 59, rfl⟩
abbrev main_v37 : Ref sig .tc := ⟨.hbm, 60, rfl⟩
abbrev main_c_5 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg8_1 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem8_1 : DmaSem sig := 20

abbrev nD : Nat := 1
abbrev τ : Topo := Topo.v7x

variable {F : FTy → Type} [FloatOps F]

abbrev grid0 : Pipeline.Grid := .none

abbrev stage0_0 : Fin 1 → Memref sig .tc .vmem S1024x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S768x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S768x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x768 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev grid1 : Pipeline.Grid := ⟨2, ![1, 128], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S8x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S4x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S8x768 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S1024x768 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, false]

abbrev stage1_4 : Fin 1 → Memref sig .tc .vmem S1024x19 .fp8e4m3 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1024x1 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x1 .i32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S8x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]
-- ==== KernelIdeal.lean ====
variable {F : FTy → Type} [FloatOps F] [Named F]
def κ : String → Option EReal := fun
  | "inv_sqrt_h" => some (((Real.sqrt 768)⁻¹ : ℝ) : EReal)
  | _ => none
-- ==== ReferenceIdeal.lean ====
abbrev S1x1000x768 : Shape := ⟨3, ![1, 1000, 768]⟩
abbrev S1x1000x4 : Shape := ⟨3, ![1, 1000, 4]⟩
abbrev S768 : Shape := ⟨1, ![768]⟩
abbrev S768x768 : Shape := ⟨2, ![768, 768]⟩
abbrev S18x1024 : Shape := ⟨2, ![18, 1024]⟩
abbrev S1024 : Shape := ⟨1, ![1024]⟩
abbrev S1024x1 : Shape := ⟨2, ![1024, 1]⟩
abbrev S1 : Shape := ⟨1, ![1]⟩
abbrev S_ : Shape := ⟨0, ![]⟩
abbrev S1x1000 : Shape := ⟨2, ![1, 1000]⟩
abbrev S1x1000x1 : Shape := ⟨3, ![1, 1000, 1]⟩
abbrev S1x1x768 : Shape := ⟨3, ![1, 1, 768]⟩
abbrev S1x1000x1000 : Shape := ⟨3, ![1, 1000, 1000]⟩
abbrev S1x1x1000 : Shape := ⟨3, ![1, 1, 1000]⟩
abbrev S1x1000x1000x1 : Shape := ⟨4, ![1, 1000, 1000, 1]⟩
abbrev S1x1000x1000x6 : Shape := ⟨4, ![1, 1000, 1000, 6]⟩
abbrev S1x1000x1000x18 : Shape := ⟨4, ![1, 1000, 1000, 18]⟩
abbrev S1x1000x1000x1024 : Shape := ⟨4, ![1, 1000, 1000, 1024]⟩
abbrev S1x1x1x1024 : Shape := ⟨4, ![1, 1, 1, 1024]⟩
abbrev S1x1x1x1 : Shape := ⟨4, ![1, 1, 1, 1]⟩
abbrev S1000x1000 : Shape := ⟨2, ![1000, 1000]⟩

abbrev nBuf : Space → Nat
  | .hbm => 343
  | .vmem => 0
  | .smem => 0
  | _ => 0

abbrev hbmTy0_0 (i : Nat) : BufTy := match i % 128 with
  | 0 => ⟨S1x1000x768, .f32⟩
  | 1 => ⟨S1x1000x4, .f32⟩
  | 2 => ⟨S768, .f32⟩
  | 3 => ⟨S768, .f32⟩
  | 4 => ⟨S768x768, .f32⟩
  | 5 => ⟨S768, .f32⟩
  | 6 => ⟨S768x768, .f32⟩
  | 7 => ⟨S768x768, .f32⟩
  | 8 => ⟨S18x1024, .f32⟩
  | 9 => ⟨S1024, .f32⟩
  | 10 => ⟨S1024x1, .f32⟩
  | 11 => ⟨S1, .f32⟩
  | 12 => ⟨S_, .f32⟩
  | 13 => ⟨S1x1000, .f32⟩
  | 14 => ⟨S1x1000x1, .f32⟩
  | 15 => ⟨S_, .f32⟩
  | 16 => ⟨S1x1000x1, .f32⟩
  | 17 => ⟨S1x1000x1, .f32⟩
  | 18 => ⟨S1x1000x768, .f32⟩
  | 19 => ⟨S1x1000x768, .f32⟩
  | 20 => ⟨S1x1000x768, .f32⟩
  | 21 => ⟨S1x1000x768, .f32⟩
  | 22 => ⟨S1x1000x768, .f32⟩
  | 23 => ⟨S_, .f32⟩
  | 24 => ⟨S1x1000, .f32⟩
  | 25 => ⟨S1x1000x1, .f32⟩
  | 26 => ⟨S_, .f32⟩
  | 27 => ⟨S1x1000x1, .f32⟩
  | 28 => ⟨S1x1000x1, .f32⟩
  | 29 => ⟨S1x1000x768, .f32⟩
  | 30 => ⟨S1x1000x768, .f32⟩
  | 31 => ⟨S_, .f32⟩
  | 32 => ⟨S1x1000x1, .f32⟩
  | 33 => ⟨S1x1000x1, .f32⟩
  | 34 => ⟨S1x1000x1, .f32⟩
  | 35 => ⟨S1x1000x768, .f32⟩
  | 36 => ⟨S1x1000x768, .f32⟩
  | 37 => ⟨S1x1x768, .f32⟩
  | 38 => ⟨S1x1000x768, .f32⟩
  | 39 => ⟨S1x1000x768, .f32⟩
  | 40 => ⟨S1x1x768, .f32⟩
  | 41 => ⟨S1x1000x768, .f32⟩
  | 42 => ⟨S1x1000x768, .f32⟩
  | 43 => ⟨S1x1000x768, .f32⟩
  | 44 => ⟨S1x1x768, .f32⟩
  | 45 => ⟨S1x1000x768, .f32⟩
  | 46 => ⟨S1x1000x768, .f32⟩
  | 47 => ⟨S_, .f32⟩
  | 48 => ⟨S1x1000x768, .f32⟩
  | 49 => ⟨S1x1000x768, .f32⟩
  | 50 => ⟨S1x1000x768, .f32⟩
  | 51 => ⟨S1x1000x768, .f32⟩
  | 52 => ⟨S1x1000x1000, .f32⟩
  | 53 => ⟨S_, .f32⟩
  | 54 => ⟨S_, .f32⟩
  | 55 => ⟨S_, .f32⟩
  | 56 => ⟨S1x1000x1000, .f32⟩
  | 57 => ⟨S1x1000x1000, .f32⟩
  | 58 => ⟨S1x1000x1, .f32⟩
  | 59 => ⟨S1x1000, .f32⟩
  | 60 => ⟨S1x1000x1, .f32⟩
  | 61 => ⟨S1x1000, .f32⟩
  | 62 => ⟨S1x1000x1, .f32⟩
  | 63 => ⟨S1x1000, .f32⟩
  | 64 => ⟨S1x1000x1, .f32⟩
  | 65 => ⟨S1x1000, .f32⟩
  | 66 => ⟨S1x1000x1, .f32⟩
  | 67 => ⟨S1x1000x1, .f32⟩
  | 68 => ⟨S1x1000x1, .f32⟩
  | 69 => ⟨S1x1000x1, .f32⟩
  | 70 => ⟨S1x1x1000, .f32⟩
  | 71 => ⟨S1x1x1000, .f32⟩
  | 72 => ⟨S1x1x1000, .f32⟩
  | 73 => ⟨S1x1x1000, .f32⟩
  | 74 => ⟨S1x1000x1000, .f32⟩
  | 75 => ⟨S1x1000x1000, .f32⟩
  | 76 => ⟨S1x1000x1000, .f32⟩
  | 77 => ⟨S1x1000x1000, .f32⟩
  | 78 => ⟨S1x1000x1000, .f32⟩
  | 79 => ⟨S1x1000x1000, .f32⟩
  | 80 => ⟨S1x1000x1000, .f32⟩
  | 81 => ⟨S1x1000x1000, .f32⟩
  | 82 => ⟨S1x1000x1000, .f32⟩
  | 83 => ⟨S1x1000x1000, .f32⟩
  | 84 => ⟨S1x1000x1000, .f32⟩
  | 85 => ⟨S1x1000x1000, .f32⟩
  | 86 => ⟨S1x1000x1, .f32⟩
  | 87 => ⟨S_, .f32⟩
  | 88 => ⟨S1x1000x1, .f32⟩
  | 89 => ⟨S1x1000x1, .f32⟩
  | 90 => ⟨S1x1000x1, .f32⟩
  | 91 => ⟨S_, .f32⟩
  | 92 => ⟨S1x1000x1, .f32⟩
  | 93 => ⟨S1x1000x1, .f32⟩
  | 94 => ⟨S1x1x1000, .f32⟩
  | 95 => ⟨S_, .f32⟩
  | 96 => ⟨S1x1x1000, .f32⟩
  | 97 => ⟨S1x1x1000, .f32⟩
  | 98 => ⟨S1x1x1000, .f32⟩
  | 99 => ⟨S_, .f32⟩
  | 100 => ⟨S1x1x1000, .f32⟩
  | 101 => ⟨S1x1x1000, .f32⟩
  | 102 => ⟨S1x1000x1, .f32⟩
  | 103 => ⟨S_, .f32⟩
  | 104 => ⟨S1x1000x1, .f32⟩
  | 105 => ⟨S1x1000x1, .f32⟩
  | 106 => ⟨S1x1000x1, .f32⟩
  | 107 => ⟨S_, .f32⟩
  | 108 => ⟨S1x1000x1, .f32⟩
  | 109 => ⟨S1x1000x1, .f32⟩
  | 110 => ⟨S1x1x1000, .f32⟩
  | 111 => ⟨S_, .f32⟩
  | 112 => ⟨S1x1x1000, .f32⟩
  | 113 => ⟨S1x1x1000, .f32⟩
  | 114 => ⟨S1x1x1000, .f32⟩
  | 115 => ⟨S_, .f32⟩
  | 116 => ⟨S1x1x1000, .f32⟩
  | 117 => ⟨S1x1x1000, .f32⟩
  | 118 => ⟨S1x1000x1, .f32⟩
  | 119 => ⟨S_, .f32⟩
  | 120 => ⟨S1x1000x1, .f32⟩
  | 121 => ⟨S1x1000x1, .f32⟩
  | 122 => ⟨S1x1000x1, .f32⟩
  | 123 => ⟨S_, .f32⟩
  | 124 => ⟨S1x1000x1, .f32⟩
  | 125 => ⟨S1x1000x1, .f32⟩
  | 126 => ⟨S1x1000x1000, .f32⟩
  | 127 => ⟨S1x1000x1000, .f32⟩
  | _ => ⟨S1x1000x768, .f32⟩

abbrev hbmTy0_1 (i : Nat) : BufTy := match i % 128 with
  | 0 => ⟨S1x1000x1000, .f32⟩
  | 1 => ⟨S1x1000x1000, .f32⟩
  | 2 => ⟨S1x1000x1000, .f32⟩
  | 3 => ⟨S1x1000x1000, .f32⟩
  | 4 => ⟨S1x1000x1000, .f32⟩
  | 5 => ⟨S1x1000x1000, .f32⟩
  | 6 => ⟨S1x1000x1000, .f32⟩
  | 7 => ⟨S1x1000x1000, .f32⟩
  | 8 => ⟨S1x1000x1000, .f32⟩
  | 9 => ⟨S1x1000x1000, .f32⟩
  | 10 => ⟨S1x1000x1000, .f32⟩
  | 11 => ⟨S1x1000x1000, .f32⟩
  | 12 => ⟨S1x1000x1000, .f32⟩
  | 13 => ⟨S1x1000x1000, .f32⟩
  | 14 => ⟨S1x1000x1000, .f32⟩
  | 15 => ⟨S1x1000x1000, .f32⟩
  | 16 => ⟨S1x1000x1000, .f32⟩
  | 17 => ⟨S1x1000x1000, .f32⟩
  | 18 => ⟨S1x1000x1000, .f32⟩
  | 19 => ⟨S1x1000x1000, .f32⟩
  | 20 => ⟨S1x1000x1000, .f32⟩
  | 21 => ⟨S_, .f32⟩
  | 22 => ⟨S1x1000x1000, .f32⟩
  | 23 => ⟨S1x1000x1000, .f32⟩
  | 24 => ⟨S1x1000x1000, .f32⟩
  | 25 => ⟨S1x1000x1000, .f32⟩
  | 26 => ⟨S1x1000x1000, .f32⟩
  | 27 => ⟨S1x1000x1000, .f32⟩
  | 28 => ⟨S_, .f32⟩
  | 29 => ⟨S1x1000x1000, .f32⟩
  | 30 => ⟨S1x1000x1000, .f32⟩
  | 31 => ⟨S1x1000x1000, .f32⟩
  | 32 => ⟨S1x1000x1000x1, .f32⟩
  | 33 => ⟨S1x1000x1000x1, .f32⟩
  | 34 => ⟨S1x1000x1000x1, .f32⟩
  | 35 => ⟨S1x1000x1000x1, .f32⟩
  | 36 => ⟨S1x1000x1000x1, .f32⟩
  | 37 => ⟨S1x1000x1000x1, .f32⟩
  | 38 => ⟨S1x1000x1000x6, .f32⟩
  | 39 => ⟨S1x1000x1, .f32⟩
  | 40 => ⟨S_, .f32⟩
  | 41 => ⟨S1x1000x1, .f32⟩
  | 42 => ⟨S1x1000x1, .f32⟩
  | 43 => ⟨S1x1000x1, .f32⟩
  | 44 => ⟨S_, .f32⟩
  | 45 => ⟨S1x1000x1, .f32⟩
  | 46 => ⟨S1x1000x1, .f32⟩
  | 47 => ⟨S1x1000x1000, .f32⟩
  | 48 => ⟨S_, .f32⟩
  | 49 => ⟨S1x1000x1000, .f32⟩
  | 50 => ⟨S1x1000x1000, .f32⟩
  | 51 => ⟨S1x1000x1000, .f32⟩
  | 52 => ⟨S_, .f32⟩
  | 53 => ⟨S1x1000x1000, .f32⟩
  | 54 => ⟨S1x1000x1000, .f32⟩
  | 55 => ⟨S1x1000x1, .f32⟩
  | 56 => ⟨S_, .f32⟩
  | 57 => ⟨S1x1000x1, .f32⟩
  | 58 => ⟨S1x1000x1, .f32⟩
  | 59 => ⟨S1x1000x1, .f32⟩
  | 60 => ⟨S_, .f32⟩
  | 61 => ⟨S1x1000x1, .f32⟩
  | 62 => ⟨S1x1000x1, .f32⟩
  | 63 => ⟨S1x1000x1000, .f32⟩
  | 64 => ⟨S_, .f32⟩
  | 65 => ⟨S1x1000x1000, .f32⟩
  | 66 => ⟨S1x1000x1000, .f32⟩
  | 67 => ⟨S1x1000x1000, .f32⟩
  | 68 => ⟨S_, .f32⟩
  | 69 => ⟨S1x1000x1000, .f32⟩
  | 70 => ⟨S1x1000x1000, .f32⟩
  | 71 => ⟨S1x1000x1, .f32⟩
  | 72 => ⟨S_, .f32⟩
  | 73 => ⟨S1x1000x1, .f32⟩
  | 74 => ⟨S1x1000x1, .f32⟩
  | 75 => ⟨S1x1000x1, .f32⟩
  | 76 => ⟨S_, .f32⟩
  | 77 => ⟨S1x1000x1, .f32⟩
  | 78 => ⟨S1x1000x1, .f32⟩
  | 79 => ⟨S1x1000x1000, .f32⟩
  | 80 => ⟨S1x1000x1000, .f32⟩
  | 81 => ⟨S1x1000x1000, .f32⟩
  | 82 => ⟨S1x1000x1000, .f32⟩
  | 83 => ⟨S1x1000x1000, .f32⟩
  | 84 => ⟨S1x1000x1000, .f32⟩
  | 85 => ⟨S1x1000x1000, .f32⟩
  | 86 => ⟨S1x1000x1000, .f32⟩
  | 87 => ⟨S1x1000x1000, .f32⟩
  | 88 => ⟨S1x1000x1000, .f32⟩
  | 89 => ⟨S1x1000x1000, .f32⟩
  | 90 => ⟨S1x1000x1000, .f32⟩
  | 91 => ⟨S1x1000x1000, .f32⟩
  | 92 => ⟨S1x1000x1000, .f32⟩
  | 93 => ⟨S1x1000x1000, .f32⟩
  | 94 => ⟨S1x1000x1000, .f32⟩
  | 95 => ⟨S1x1000x1000, .f32⟩
  | 96 => ⟨S1x1000x1000, .f32⟩
  | 97 => ⟨S_, .f32⟩
  | 98 => ⟨S1x1000x1000, .f32⟩
  | 99 => ⟨S1x1000x1000, .f32⟩
  | 100 => ⟨S1x1000x1000, .f32⟩
  | 101 => ⟨S1x1000x1000, .f32⟩
  | 102 => ⟨S1x1000x1000, .f32⟩
  | 103 => ⟨S_, .f32⟩
  | 104 => ⟨S1x1000x1000, .f32⟩
  | 105 => ⟨S1x1000x1000, .f32⟩
  | 106 => ⟨S1x1000x1000, .f32⟩
  | 107 => ⟨S1x1000x1000x1, .f32⟩
  | 108 => ⟨S1x1000x1000x1, .f32⟩
  | 109 => ⟨S1x1000x1000x1, .f32⟩
  | 110 => ⟨S1x1000x1000x1, .f32⟩
  | 111 => ⟨S1x1000x1000x1, .f32⟩
  | 112 => ⟨S1x1000x1000x1, .f32⟩
  | 113 => ⟨S1x1000x1000x6, .f32⟩
  | 114 => ⟨S1x1x1000, .f32⟩
  | 115 => ⟨S_, .f32⟩
  | 116 => ⟨S1x1x1000, .f32⟩
  | 117 => ⟨S1x1x1000, .f32⟩
  | 118 => ⟨S1x1x1000, .f32⟩
  | 119 => ⟨S_, .f32⟩
  | 120 => ⟨S1x1x1000, .f32⟩
  | 121 => ⟨S1x1x1000, .f32⟩
  | 122 => ⟨S1x1000x1000, .f32⟩
  | 123 => ⟨S_, .f32⟩
  | 124 => ⟨S1x1000x1000, .f32⟩
  | 125 => ⟨S1x1000x1000, .f32⟩
  | 126 => ⟨S1x1000x1000, .f32⟩
  | 127 => ⟨S_, .f32⟩
  | _ => ⟨S1x1000x768, .f32⟩

abbrev hbmTy0_2 (i : Nat) : BufTy := match i % 128 with
  | 0 => ⟨S1x1000x1000, .f32⟩
  | 1 => ⟨S1x1000x1000, .f32⟩
  | 2 => ⟨S1x1x1000, .f32⟩
  | 3 => ⟨S_, .f32⟩
  | 4 => ⟨S1x1x1000, .f32⟩
  | 5 => ⟨S1x1x1000, .f32⟩
  | 6 => ⟨S1x1x1000, .f32⟩
  | 7 => ⟨S_, .f32⟩
  | 8 => ⟨S1x1x1000, .f32⟩
  | 9 => ⟨S1x1x1000, .f32⟩
  | 10 => ⟨S1x1000x1000, .f32⟩
  | 11 => ⟨S_, .f32⟩
  | 12 => ⟨S1x1000x1000, .f32⟩
  | 13 => ⟨S1x1000x1000, .f32⟩
  | 14 => ⟨S1x1000x1000, .f32⟩
  | 15 => ⟨S_, .f32⟩
  | 16 => ⟨S1x1000x1000, .f32⟩
  | 17 => ⟨S1x1000x1000, .f32⟩
  | 18 => ⟨S1x1x1000, .f32⟩
  | 19 => ⟨S_, .f32⟩
  | 20 => ⟨S1x1x1000, .f32⟩
  | 21 => ⟨S1x1x1000, .f32⟩
  | 22 => ⟨S1x1x1000, .f32⟩
  | 23 => ⟨S_, .f32⟩
  | 24 => ⟨S1x1x1000, .f32⟩
  | 25 => ⟨S1x1x1000, .f32⟩
  | 26 => ⟨S1x1000x1000, .f32⟩
  | 27 => ⟨S1x1000x1000, .f32⟩
  | 28 => ⟨S1x1000x1000, .f32⟩
  | 29 => ⟨S1x1000x1000, .f32⟩
  | 30 => ⟨S1x1000x1000, .f32⟩
  | 31 => ⟨S1x1000x1000, .f32⟩
  | 32 => ⟨S1x1000x1000, .f32⟩
  | 33 => ⟨S1x1000x1000, .f32⟩
  | 34 => ⟨S1x1000x1000, .f32⟩
  | 35 => ⟨S1x1000x1000, .f32⟩
  | 36 => ⟨S1x1000x1000, .f32⟩
  | 37 => ⟨S1x1000x1000, .f32⟩
  | 38 => ⟨S1x1000x1000, .f32⟩
  | 39 => ⟨S1x1000x1000, .f32⟩
  | 40 => ⟨S1x1000x1000, .f32⟩
  | 41 => ⟨S1x1000x1000, .f32⟩
  | 42 => ⟨S1x1000x1000, .f32⟩
  | 43 => ⟨S1x1000x1000, .f32⟩
  | 44 => ⟨S_, .f32⟩
  | 45 => ⟨S1x1000x1000, .f32⟩
  | 46 => ⟨S1x1000x1000, .f32⟩
  | 47 => ⟨S1x1000x1000, .f32⟩
  | 48 => ⟨S1x1000x1000, .f32⟩
  | 49 => ⟨S1x1000x1000, .f32⟩
  | 50 => ⟨S_, .f32⟩
  | 51 => ⟨S1x1000x1000, .f32⟩
  | 52 => ⟨S1x1000x1000, .f32⟩
  | 53 => ⟨S1x1000x1000, .f32⟩
  | 54 => ⟨S1x1000x1000x1, .f32⟩
  | 55 => ⟨S1x1000x1000x1, .f32⟩
  | 56 => ⟨S1x1000x1000x1, .f32⟩
  | 57 => ⟨S1x1000x1000x1, .f32⟩
  | 58 => ⟨S1x1000x1000x1, .f32⟩
  | 59 => ⟨S1x1000x1000x1, .f32⟩
  | 60 => ⟨S1x1000x1000x6, .f32⟩
  | 61 => ⟨S1x1000x1000x18, .f32⟩
  | 62 => ⟨S1x1000x1000x1024, .f32⟩
  | 63 => ⟨S1x1x1x1024, .f32⟩
  | 64 => ⟨S1x1000x1000x1024, .f32⟩
  | 65 => ⟨S1x1000x1000x1024, .f32⟩
  | 66 => ⟨S_, .f32⟩
  | 67 => ⟨S1x1000x1000x1024, .f32⟩
  | 68 => ⟨S1x1000x1000x1024, .f32⟩
  | 69 => ⟨S1x1000x1000x1, .f32⟩
  | 70 => ⟨S1x1x1x1, .f32⟩
  | 71 => ⟨S1x1000x1000x1, .f32⟩
  | 72 => ⟨S1x1000x1000x1, .f32⟩
  | 73 => ⟨S1x1000x1000, .f32⟩
  | 74 => ⟨S1x1000x1000, .f32⟩
  | 75 => ⟨S1000x1000, .i32⟩
  | 76 => ⟨S1000x1000, .i32⟩
  | 77 => ⟨S_, .i32⟩
  | 78 => ⟨S1000x1000, .i32⟩
  | 79 => ⟨S1000x1000, .i32⟩
  | 80 => ⟨S1000x1000, .i1⟩
  | 81 => ⟨S1000x1000, .f32⟩
  | 82 => ⟨S1x1000x1000, .f32⟩
  | 83 => ⟨S_, .f32⟩
  | 84 => ⟨S1x1000x1000, .f32⟩
  | 85 => ⟨S1x1000x1000, .f32⟩
  | 86 => ⟨S1x1000x1000, .f32⟩
  | _ => ⟨S1x1000x768, .f32⟩

abbrev hbmTy (i : Nat) : BufTy := match i / 128 with
  | 0 => hbmTy0_0 i
  | 1 => hbmTy0_1 i
  | 2 => hbmTy0_2 i
  | _ => ⟨S1x1000x768, .f32⟩

abbrev bufTy : (tb : Table) → Fin (tcTables nBuf tb) → BufTy
  | .hbm, ⟨i, _⟩ => hbmTy i
  | _, _ => ⟨S1x1000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_6 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_7 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_8 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_9 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_10 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_11 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_12 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_13 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_cst_14 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_15 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_cst_16 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_cst_17 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_cst_18 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_cst_19 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_cst_20 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_cst_21 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_cst_22 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_cst_23 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_cst_24 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_cst_25 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_cst_26 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_cst_27 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_cst_28 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_cst_29 : Ref sig .tc := ⟨.hbm, 231, rfl⟩
abbrev main_v189 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_cst_30 : Ref sig .tc := ⟨.hbm, 243, rfl⟩
abbrev main_v200 : Ref sig .tc := ⟨.hbm, 244, rfl⟩
abbrev main_v201 : Ref sig .tc := ⟨.hbm, 245, rfl⟩
abbrev main_v202 : Ref sig .tc := ⟨.hbm, 246, rfl⟩
abbrev main_cst_31 : Ref sig .tc := ⟨.hbm, 247, rfl⟩
abbrev main_v203 : Ref sig .tc := ⟨.hbm, 248, rfl⟩
abbrev main_v204 : Ref sig .tc := ⟨.hbm, 249, rfl⟩
abbrev main_v205 : Ref sig .tc := ⟨.hbm, 250, rfl⟩
abbrev main_cst_32 : Ref sig .tc := ⟨.hbm, 251, rfl⟩
abbrev main_v206 : Ref sig .tc := ⟨.hbm, 252, rfl⟩
abbrev main_v207 : Ref sig .tc := ⟨.hbm, 253, rfl⟩
abbrev main_v208 : Ref sig .tc := ⟨.hbm, 254, rfl⟩
abbrev main_cst_33 : Ref sig .tc := ⟨.hbm, 255, rfl⟩
abbrev main_v209 : Ref sig .tc := ⟨.hbm, 256, rfl⟩
abbrev main_v210 : Ref sig .tc := ⟨.hbm, 257, rfl⟩
abbrev main_v211 : Ref sig .tc := ⟨.hbm, 258, rfl⟩
abbrev main_cst_34 : Ref sig .tc := ⟨.hbm, 259, rfl⟩
abbrev main_v212 : Ref sig .tc := ⟨.hbm, 260, rfl⟩
abbrev main_v213 : Ref sig .tc := ⟨.hbm, 261, rfl⟩
abbrev main_v214 : Ref sig .tc := ⟨.hbm, 262, rfl⟩
abbrev main_cst_35 : Ref sig .tc := ⟨.hbm, 263, rfl⟩
abbrev main_v215 : Ref sig .tc := ⟨.hbm, 264, rfl⟩
abbrev main_v216 : Ref sig .tc := ⟨.hbm, 265, rfl⟩
abbrev main_v217 : Ref sig .tc := ⟨.hbm, 266, rfl⟩
abbrev main_cst_36 : Ref sig .tc := ⟨.hbm, 267, rfl⟩
abbrev main_v218 : Ref sig .tc := ⟨.hbm, 268, rfl⟩
abbrev main_v219 : Ref sig .tc := ⟨.hbm, 269, rfl⟩
abbrev main_v220 : Ref sig .tc := ⟨.hbm, 270, rfl⟩
abbrev main_cst_37 : Ref sig .tc := ⟨.hbm, 271, rfl⟩
abbrev main_v221 : Ref sig .tc := ⟨.hbm, 272, rfl⟩
abbrev main_v222 : Ref sig .tc := ⟨.hbm, 273, rfl⟩
abbrev main_v223 : Ref sig .tc := ⟨.hbm, 274, rfl⟩
abbrev main_cst_38 : Ref sig .tc := ⟨.hbm, 275, rfl⟩
abbrev main_v224 : Ref sig .tc := ⟨.hbm, 276, rfl⟩
abbrev main_v225 : Ref sig .tc := ⟨.hbm, 277, rfl⟩
abbrev main_v226 : Ref sig .tc := ⟨.hbm, 278, rfl⟩
abbrev main_cst_39 : Ref sig .tc := ⟨.hbm, 279, rfl⟩
abbrev main_v227 : Ref sig .tc := ⟨.hbm, 280, rfl⟩
abbrev main_v228 : Ref sig .tc := ⟨.hbm, 281, rfl⟩
abbrev main_v229 : Ref sig .tc := ⟨.hbm, 282, rfl⟩
abbrev main_v230 : Ref sig .tc := ⟨.hbm, 283, rfl⟩
abbrev main_v231 : Ref sig .tc := ⟨.hbm, 284, rfl⟩
abbrev main_v232 : Ref sig .tc := ⟨.hbm, 285, rfl⟩
abbrev main_v233 : Ref sig .tc := ⟨.hbm, 286, rfl⟩
abbrev main_v234 : Ref sig .tc := ⟨.hbm, 287, rfl⟩
abbrev main_v235 : Ref sig .tc := ⟨.hbm, 288, rfl⟩
abbrev main_v236 : Ref sig .tc := ⟨.hbm, 289, rfl⟩
abbrev main_v237 : Ref sig .tc := ⟨.hbm, 290, rfl⟩
abbrev main_v238 : Ref sig .tc := ⟨.hbm, 291, rfl⟩
abbrev main_v239 : Ref sig .tc := ⟨.hbm, 292, rfl⟩
abbrev main_v240 : Ref sig .tc := ⟨.hbm, 293, rfl⟩
abbrev main_v241 : Ref sig .tc := ⟨.hbm, 294, rfl⟩
abbrev main_v242 : Ref sig .tc := ⟨.hbm, 295, rfl⟩
abbrev main_v243 : Ref sig .tc := ⟨.hbm, 296, rfl⟩
abbrev main_v244 : Ref sig .tc := ⟨.hbm, 297, rfl⟩
abbrev main_v245 : Ref sig .tc := ⟨.hbm, 298, rfl⟩
abbrev main_v246 : Ref sig .tc := ⟨.hbm, 299, rfl⟩
abbrev main_cst_40 : Ref sig .tc := ⟨.hbm, 300, rfl⟩
abbrev main_v247 : Ref sig .tc := ⟨.hbm, 301, rfl⟩
abbrev main_v248 : Ref sig .tc := ⟨.hbm, 302, rfl⟩
abbrev main_v249 : Ref sig .tc := ⟨.hbm, 303, rfl⟩
abbrev main_v250 : Ref sig .tc := ⟨.hbm, 304, rfl⟩
abbrev main_v251 : Ref sig .tc := ⟨.hbm, 305, rfl⟩
abbrev main_cst_41 : Ref sig .tc := ⟨.hbm, 306, rfl⟩
abbrev main_v252 : Ref sig .tc := ⟨.hbm, 307, rfl⟩
abbrev main_v253 : Ref sig .tc := ⟨.hbm, 308, rfl⟩
abbrev main_v254 : Ref sig .tc := ⟨.hbm, 309, rfl⟩
abbrev main_v255 : Ref sig .tc := ⟨.hbm, 310, rfl⟩
abbrev main_v256 : Ref sig .tc := ⟨.hbm, 311, rfl⟩
abbrev main_v257 : Ref sig .tc := ⟨.hbm, 312, rfl⟩
abbrev main_v258 : Ref sig .tc := ⟨.hbm, 313, rfl⟩
abbrev main_v259 : Ref sig .tc := ⟨.hbm, 314, rfl⟩
abbrev main_v260 : Ref sig .tc := ⟨.hbm, 315, rfl⟩
abbrev main_v261 : Ref sig .tc := ⟨.hbm, 316, rfl⟩
abbrev main_v262 : Ref sig .tc := ⟨.hbm, 317, rfl⟩
abbrev main_v263 : Ref sig .tc := ⟨.hbm, 318, rfl⟩
abbrev main_v264 : Ref sig .tc := ⟨.hbm, 319, rfl⟩
abbrev main_v265 : Ref sig .tc := ⟨.hbm, 320, rfl⟩
abbrev main_v266 : Ref sig .tc := ⟨.hbm, 321, rfl⟩
abbrev main_cst_42 : Ref sig .tc := ⟨.hbm, 322, rfl⟩
abbrev main_v267 : Ref sig .tc := ⟨.hbm, 323, rfl⟩
abbrev main_v268 : Ref sig .tc := ⟨.hbm, 324, rfl⟩
abbrev main_v269 : Ref sig .tc := ⟨.hbm, 325, rfl⟩
abbrev main_v270 : Ref sig .tc := ⟨.hbm, 326, rfl⟩
abbrev main_v271 : Ref sig .tc := ⟨.hbm, 327, rfl⟩
abbrev main_v272 : Ref sig .tc := ⟨.hbm, 328, rfl⟩
abbrev main_v273 : Ref sig .tc := ⟨.hbm, 329, rfl⟩
abbrev main_v274 : Ref sig .tc := ⟨.hbm, 330, rfl⟩
abbrev main_v275 : Ref sig .tc := ⟨.hbm, 331, rfl⟩
abbrev main_v276 : Ref sig .tc := ⟨.hbm, 332, rfl⟩
abbrev main_c : Ref sig .tc := ⟨.hbm, 333, rfl⟩
abbrev main_v277 : Ref sig .tc := ⟨.hbm, 334, rfl⟩
abbrev main_v278 : Ref sig .tc := ⟨.hbm, 335, rfl⟩
abbrev main_v279 : Ref sig .tc := ⟨.hbm, 336, rfl⟩
abbrev main_v280 : Ref sig .tc := ⟨.hbm, 337, rfl⟩
abbrev main_v281 : Ref sig .tc := ⟨.hbm, 338, rfl⟩
abbrev main_cst_43 : Ref sig .tc := ⟨.hbm, 339, rfl⟩
abbrev main_v282 : Ref sig .tc := ⟨.hbm, 340, rfl⟩
abbrev main_v283 : Ref sig .tc := ⟨.hbm, 341, rfl⟩
abbrev main_v284 : Ref sig .tc := ⟨.hbm, 342, rfl⟩

abbrev nD : Nat := 1
abbrev τ : Topo := Topo.v7x

variable {F : FTy → Type} [FloatOps F]
-- ==== Proof.KernelRun.lean ====
/- The launch of the whole kernel at its values: the run ends with the result array at what the last host operation left
   in it, the fold of the segments' effects from the launch memory, with every argument as launched and every counter
   at zero. The set-up of the launch is the frame's. -/
module

public import proofs.«01_k».proof.Proof.Gen.KernelIdeal.Frame

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the launch lemma's implicit arguments are found by unifying its conclusion with this one
set_option backward.isDefEq.respectTransparency.types false in
/-- From any memory with zero counters every weakly fair execution of @main terminates without a fault; the result array
    then holds the last boundary's contents, the arguments are as launched, and every counter is zero. -/
theorem run : θ_run defs (onTc (τ := τ) (main (F := F))) ⟨m, fun _ => 0, ρ⟩ (fun r => (∀ c : Dev nD,
      r.2.mem ((c.tc : Thread nD τ).loc main_v41) = W9 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => ⟨(fun c =>
      ⟨(h c _ (mem_uc main_v41 (by decide))),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c)⟩), funext fun g => hz g (.inr (no_unscoped g.2))⟩)

end Cert.KernelIdeal.Hand

end
-- ==== Proof.Consts.lean ====
/- The float literals of the two programs, as the extended reals their patterns denote at `Ideal`. The patterns are
   unfolded here and nowhere else. -/
module

public import Idealize.ShloMosaic.PureOps.Ideal

@[expose] public section

noncomputable section

namespace Cert.Consts

open Idealize.ShloMosaic

/-- The f32 literal `0.0` is the number 0. -/
theorem zero_f32 : Ideal.ofBits .f32 0x00000000#32 = 0 := by
  simp [Ideal.ofBits, Ideal.ieee]

/-- The bf16 literal `0.0` is the number 0. -/
theorem zero_bf16 : Ideal.ofBits .bf16 0x0000#16 = 0 := by
  simp [Ideal.ofBits, Ideal.ieee]

/-- The f32 literal `1.0` is the real 1. -/
theorem one_f32 : Ideal.ofBits .f32 0x3F800000#32 = ((1 : ℝ) : EReal) := by
  simp [Ideal.ofBits, Ideal.ieee, -EReal.coe_mul]; norm_num

/-- The f32 literal `-1.0` is the real -1. -/
theorem neg_one_f32 : Ideal.ofBits .f32 0xBF800000#32 = ((-1 : ℝ) : EReal) := by
  simp [Ideal.ofBits, Ideal.ieee, -EReal.coe_mul]; norm_num

/-- The f32 literal `0.5` is the real 1/2. -/
theorem half_f32 : Ideal.ofBits .f32 0x3F000000#32 = ((1 / 2 : ℝ) : EReal) := by
  simp [Ideal.ofBits, Ideal.ieee, -EReal.coe_mul]; norm_num

/-- The f32 literal `2.0` is the real 2. -/
theorem two_f32 : Ideal.ofBits .f32 0x40000000#32 = ((2 : ℝ) : EReal) := by
  simp [Ideal.ofBits, Ideal.ieee, -EReal.coe_mul]; norm_num

/-- The f32 literal `64.0` is the real 64. -/
theorem sixtyfour_f32 : Ideal.ofBits .f32 0x42800000#32 = ((64 : ℝ) : EReal) := by
  simp [Ideal.ofBits, Ideal.ieee, -EReal.coe_mul]; norm_num

/-- The f32 literal `768.0` is the real 768. -/
theorem width_f32 : Ideal.ofBits .f32 0x44400000#32 = ((768 : ℝ) : EReal) := by
  simp [Ideal.ofBits, Ideal.ieee, -EReal.coe_mul]; norm_num

/-- The f32 literal `1e9` is the real 10⁹. -/
theorem billion_f32 : Ideal.ofBits .f32 0x4E6E6B28#32 = ((1000000000 : ℝ) : EReal) := by
  simp [Ideal.ofBits, Ideal.ieee, -EReal.coe_mul]; norm_num

/-- The f32 literal `-1e9` is the real -10⁹. -/
theorem neg_billion_f32 : Ideal.ofBits .f32 0xCE6E6B28#32 = ((-1000000000 : ℝ) : EReal) := by
  simp [Ideal.ofBits, Ideal.ieee, -EReal.coe_mul]; norm_num

/-- The f32 literal `1e-05` is a positive real. -/
theorem eps_pos : ∃ e : ℝ, 0 < e ∧ Ideal.ofBits .f32 0x3727C5AC#32 = (e : EReal) := by
  refine ⟨10995116 * 2 ^ (-40 : ℤ), by positivity, ?_⟩
  simp [Ideal.ofBits, Ideal.ieee, -EReal.coe_mul]

/-- The f32 pattern of positive infinity is the top element. -/
theorem top_f32 : Ideal.ofBits .f32 0x7F800000#32 = ⊤ := by
  simp [Ideal.ofBits, Ideal.ieee]

end Cert.Consts

end
-- ==== Proof.Row.lean ====
/- What one row of the pair kernel's block computes. The kernel stacks the eighteen features of a row with a row of
   ones, multiplies the first-layer weights into them, rectifies, scales by the signs, and adds up the 1024 hidden units
   by halving; every row does the same at its own row of the features. -/
module

public import proofs.«01_k».proof.Proof.Gen.KernelIdeal.Skeleton
public import Idealize.ShloMosaic.Lib.ValueIdx
public import Idealize.ShloMosaic.Lib.Pipeline.Value
public import Idealize.ShloMosaic.PureOps.Ideal.Laws
public import proofs.«01_k».proof.Proof.Consts

@[expose] public section

set_option maxRecDepth 16384

noncomputable section

namespace Cert.KernelIdeal.Hand

open Idealize.ShloMosaic Idealize.ShloMosaic.ValueIdx Cert.KernelIdeal Cert.KernelIdeal.Gen

section Defs
variable {F : FTy → Type} [FloatOps F] [Named F]

/-- One halving of the hidden units: the upper half of the rows added to the lower half. -/
def halve {p n : ℕ} (lo : Shape.Slices ⟨2, ![p, 1024]⟩ ![0, 0] ⟨2, ![n, 1024]⟩)
    (hi : Shape.Slices ⟨2, ![p, 1024]⟩ ![n, 0] ⟨2, ![n, 1024]⟩) (v : FVec F ⟨2, ![p, 1024]⟩ .bf16) :
    FVec F ⟨2, ![n, 1024]⟩ .bf16 :=
  addf (extractStridedSlice ⟨2, ![n, 1024]⟩ ![0, 0] v lo) (extractStridedSlice ⟨2, ![n, 1024]⟩ ![n, 0] v hi)

/-- From 512 partial sums to one row: five halvings, then the sum over the last sixteen. -/
def tree512 (v : FVec F S512x1024 .bf16) : FVec F S1x1024 .f32 :=
  shapeCast S1x1024 (multiReduction .add [0] S1024 (extf .f32
    (halve slices_S32x1024_o0_0_S16x1024 slices_S32x1024_o16_0_S16x1024
      (halve slices_S64x1024_o0_0_S32x1024 slices_S64x1024_o32_0_S32x1024
        (halve slices_S128x1024_o0_0_S64x1024 slices_S128x1024_o64_0_S64x1024
          (halve slices_S256x1024_o0_0_S128x1024 slices_S256x1024_o128_0_S128x1024
            (halve slices_S512x1024_o0_0_S256x1024 slices_S512x1024_o256_0_S256x1024 v)))))
    bitsLt_bf16_f32) 0x00000000#32 reduces_S16x1024_S1024 (.inl rfl) rfl) shapeCasts_S1024_S1x1024

/-- The rectified and signed hidden units of a row of pairs, added in two halves. -/
def hidden (W : FVec F S1024x19 .fp8e4m3) (S : FVec F S1024x1 .bf16) (G : FVec F S19x1024 .fp8e4m3) :
    FVec F S1024x1024 .bf16 :=
  mulf (maximumf (truncf .bf16 (matmul dot_S1024x19_S19x1024_S1024x1024_1_0_0_1_n_n none W G
      (constant S1024x1024 .f32 0x00000000#32)) bitsLt_bf16_f32) (broadcast S1024x1024 (Scalar.ofBits .bf16 0x0000#16)))
    (broadcastTo S1024x1024 S broadcasts_S1024x1_S1024x1024)

/-- One row of the block's second summand. -/
def rowOf (W : FVec F S1024x19 .fp8e4m3) (S : FVec F S1024x1 .bf16) (G : FVec F S19x1024 .fp8e4m3) : FVec F S1x1024 .f32 :=
  tree512 (halve slices_S1024x1024_o0_0_S512x1024 slices_S1024x1024_o512_0_S512x1024 (hidden W S G))

/-- The pieces a row stacks: one row of each of the eighteen features, then the ones. -/
def pieces (off : Fin 2 → ℕ) (h : S8x1024.Slices off S1x1024) (c : Fin 18 → FVec F S8x1024 .f32) (ones : FVec F S1x1024 .f32) :
    Fin 19 → FVec F S1x1024 .f32 :=
  Fin.snoc (α := fun _ => FVec F S1x1024 .f32) (fun k => extractStridedSlice S1x1024 off (c k) h) ones

/-- A row's stacked features. -/
def stack (off : Fin 2 → ℕ) (h : S8x1024.Slices off S1x1024) (c : Fin 18 → FVec F S8x1024 .f32) (ones : FVec F S1x1024 .f32) :
    FVec F S19x1024 .fp8e4m3 :=
  truncf .fp8e4m3 (concatenate S19x1024 0 (List.ofFn fun k => (⟨S1x1024, pieces off h c ones k⟩ : (s : Shape) × (s.Idx → F .f32)))
    concatenates_S1x1024_S1x1024_S1x1024_S1x1024_S1x1024_S1x1024_S1x1024_S1x1024_S1x1024_S1x1024_S1x1024_S1x1024_S1x1024_S1x1024_S1x1024_S1x1024_S1x1024_S1x1024_S1x1024_S19x1024_d0) bitsLt_fp8e4m3_f32

end Defs

section AtIdeal

/-- A halving keeps the sum over the hidden units. -/
theorem halve_sum {p n : ℕ} (lo : Shape.Slices ⟨2, ![p, 1024]⟩ ![0, 0] ⟨2, ![n, 1024]⟩)
    (hi : Shape.Slices ⟨2, ![p, 1024]⟩ ![n, 0] ⟨2, ![n, 1024]⟩) (hp : p = n + n) (v : FVec Ideal ⟨2, ![p, 1024]⟩ .bf16)
    (j : Fin 1024) : ∑ r : Fin n, halve lo hi v (ix2 r j) = ∑ r : Fin p, v (ix2 r j) := by
  subst hp
  rw [Fin.sum_univ_add, ← Finset.sum_add_distrib]
  refine Finset.sum_congr rfl fun r _ => ?_
  show extractStridedSlice _ _ v lo _ + extractStridedSlice _ _ v hi _ = _
  rw [extractStridedSlice_apply _ _ _ _ (ix2 (Fin.castAdd n r) j) (fun a => by
      match a with
      | ⟨0, _⟩ => exact (Nat.zero_add _).symm
      | ⟨1, _⟩ => exact (Nat.zero_add _).symm),
    extractStridedSlice_apply _ _ _ _ (ix2 (Fin.natAdd n r) j) (fun a => by
      match a with
      | ⟨0, _⟩ => rfl
      | ⟨1, _⟩ => exact (Nat.zero_add _).symm)]

/-- The tree over 512 partial sums is their sum. -/
theorem tree512_apply (v : FVec Ideal S512x1024 .bf16) (j : Fin 1024) :
    tree512 v (ix2 0 j) = ∑ r : Fin 512, v (ix2 r j) := by
  unfold tree512
  refine (shapeCast_apply _ _ _ (ix1 j) (by
    rw [Shape.rowMajor_val_two, Shape.rowMajor_val_one]; show j.val = 0 * 1024 + j.val; omega)).trans ?_
  refine (Ideal.multiReduction_add_single _ _ _ _ _ _).trans ?_
  rw [← halve_sum slices_S512x1024_o0_0_S256x1024 slices_S512x1024_o256_0_S256x1024 rfl v j,
    ← halve_sum slices_S256x1024_o0_0_S128x1024 slices_S256x1024_o128_0_S128x1024 rfl _ j,
    ← halve_sum slices_S128x1024_o0_0_S64x1024 slices_S128x1024_o64_0_S64x1024 rfl _ j,
    ← halve_sum slices_S64x1024_o0_0_S32x1024 slices_S64x1024_o32_0_S32x1024 rfl _ j,
    ← halve_sum slices_S32x1024_o0_0_S16x1024 slices_S32x1024_o16_0_S16x1024 rfl _ j]
  refine Finset.sum_congr rfl fun k _ => ?_
  refine congrArg (halve (F := Ideal) _ _ _) (Shape.idx_ext₂ rfl rfl)

/-- A row of the block: over the hidden units, the rectified product of the unit's weights with the stacked features,
    times the unit's sign. -/
theorem rowOf_apply (W : FVec Ideal S1024x19 .fp8e4m3) (S : FVec Ideal S1024x1 .bf16) (G : FVec Ideal S19x1024 .fp8e4m3)
    (j : Fin 1024) :
    rowOf W S G (ix2 0 j)
      = ∑ m : Fin 1024, max (∑ k : Fin 19, W (ix2 m k) * G (ix2 k j)) 0 * S (ix2 m 0) := by
  unfold rowOf
  rw [tree512_apply, halve_sum _ _ rfl]
  refine Finset.sum_congr rfl fun m _ => ?_
  unfold hidden
  simp only [matmul]
  rw [mulf_apply, maximumf_apply, truncf_apply, Ideal.matmul_constant_zero_apply, broadcast_apply,
    broadcastTo_apply _ _ _ (ix2 m 0) (fun a => by
      match a with
      | ⟨0, _⟩ => rfl
      | ⟨1, _⟩ => rfl)]
  show max _ (Ideal.ofBits .bf16 0x0000#16) * _ = _
  rw [Consts.zero_bf16]
  congr 2
  refine (Equiv.sum_comp (contrEquiv1 dot_S1024x19_S19x1024_S1024x1024_1_0_0_1_n_n 19 rfl rfl).symm _).symm.trans ?_
  refine Finset.sum_congr rfl fun k _ => ?_
  congr 2 <;> exact Shape.idx_ext₂ rfl rfl

/-- The stacked features read at a piece. -/
theorem stack_apply (off : Fin 2 → ℕ) (h : S8x1024.Slices off S1x1024) (c : Fin 18 → FVec Ideal S8x1024 .f32)
    (ones : FVec Ideal S1x1024 .f32) (k : Fin 19) (j : Fin 1024) :
    stack off h c ones (ix2 k j) = pieces off h c ones k (ix2 0 j) :=
  concatenate_ofFn_unit_apply (t := S19x1024) (s₁ := S1x1024) 0 (pieces off h c ones)
    concatenates_S1x1024_S1x1024_S1x1024_S1x1024_S1x1024_S1x1024_S1x1024_S1x1024_S1x1024_S1x1024_S1x1024_S1x1024_S1x1024_S1x1024_S1x1024_S1x1024_S1x1024_S1x1024_S1x1024_S19x1024_d0 rfl rfl (ix2 k j) k rfl (ix2 0 j)
    (fun b hb => by
      match b with
      | ⟨0, _⟩ => exact absurd rfl hb
      | ⟨1, _⟩ => rfl)

/-- The stacked features read at a feature. -/
theorem stack_feature (off : Fin 2 → ℕ) (h : S8x1024.Slices off S1x1024) (c : Fin 18 → FVec Ideal S8x1024 .f32)
    (ones : FVec Ideal S1x1024 .f32) (k : Fin 18) (j : Fin 1024) (r : Fin 8) (h0 : off 0 = r.val) (h1 : off 1 = 0) :
    stack off h c ones (ix2 k.castSucc j) = c k (ix2 r j) := by
  rw [stack_apply, pieces, Fin.snoc_castSucc]
  exact extractStridedSlice_apply _ _ _ _ _ (fun a => by
    match a with
    | ⟨0, _⟩ => exact h0.symm
    | ⟨1, _⟩ => exact ((congrArg (· + j.val) h1).trans (Nat.zero_add _)).symm)

/-- The stacked features read at the last piece: the ones. -/
theorem stack_ones (off : Fin 2 → ℕ) (h : S8x1024.Slices off S1x1024) (c : Fin 18 → FVec Ideal S8x1024 .f32)
    (ones : FVec Ideal S1x1024 .f32) (j : Fin 1024) :
    stack off h c ones (ix2 (Fin.last 18) j) = ones (ix2 0 j) := by
  rw [stack_apply, pieces, Fin.snoc_last]

end AtIdeal

end Cert.KernelIdeal.Hand

end
-- ==== Proof.Scalars.lean ====
/- Facts about single extended reals and finite sums of them: the scalar identities by which the kernel's arithmetic
   and the reference's are one. No program is mentioned. -/
module

public import Idealize.ShloMosaic.PureOps.Ideal
public import proofs.«01_k».proof.Proof.Consts

@[expose] public section

noncomputable section

namespace Cert.Scalars

open Idealize.ShloMosaic

/-- Half of a number as a product with the literal `0.5` is the quotient by the literal `2.0`. -/
theorem mul_half (x : EReal) : x * Ideal.ofBits .f32 0x3F000000#32 = Ideal.div x (Ideal.ofBits .f32 0x40000000#32) := by
  rw [Consts.half_f32, Consts.two_f32, Ideal.div_coe (by norm_num)]

/-- A product with the reciprocal of a number at least 1 is the quotient by it. -/
theorem mul_recip {w : EReal} (hw : Ideal.ofBits .f32 0x3F800000#32 ≤ w) (a : EReal) :
    a * Ideal.div (Ideal.ofBits .f32 0x3F800000#32) w = Ideal.div a w := by
  rw [Consts.one_f32, EReal.coe_one] at *
  have h0 : w ≠ 0 := (lt_of_lt_of_le zero_lt_one hw).ne'
  unfold Ideal.div
  rw [if_neg h0, if_neg h0, one_mul]

/-- Any extended real times itself is not negative. -/
theorem mul_self_nonneg (x : EReal) : 0 ≤ x * x := by
  rcases le_total 0 x with h | h
  · exact EReal.mul_nonneg h h
  · have := EReal.mul_nonneg (EReal.neg_nonneg.2 h) (EReal.neg_nonneg.2 h)
    rwa [neg_mul_neg] at this

/-- A nonnegative number over the literal `768.0` is not negative. -/
theorem div_width_nonneg {x : EReal} (h : 0 ≤ x) : 0 ≤ Ideal.div x (Ideal.ofBits .f32 0x44400000#32) := by
  rw [Consts.width_f32, Ideal.div_coe (by norm_num)]
  exact EReal.mul_nonneg h (by exact_mod_cast (by norm_num : (0 : ℝ) ≤ 1 / 768))

/-- A product with the reciprocal root of a variance plus the literal `1e-05` is the quotient by the root. -/
theorem mul_rsqrt {v : EReal} (hv : 0 ≤ v) (d : EReal) :
    d * Ideal.rsqrt (v + Ideal.ofBits .f32 0x3727C5AC#32)
      = Ideal.div d (Ideal.sqrt (v + Ideal.ofBits .f32 0x3727C5AC#32)) := by
  obtain ⟨e, he, h⟩ := Consts.eps_pos
  rw [h]
  induction v using EReal.rec with
  | bot => simp at hv
  | top =>
    rw [EReal.top_add_coe, Ideal.rsqrt_top]
    show _ = Ideal.div d ⊤
    unfold Ideal.div
    simp
  | coe r =>
    have hr : 0 ≤ r := by exact_mod_cast hv
    have hp : 0 < r + e := by linarith
    rw [← EReal.coe_add, Ideal.rsqrt_coe, Ideal.sqrt_coe, if_neg (not_lt.2 hp.le), if_neg hp.ne', if_neg (not_lt.2 hp.le),
      Ideal.div_coe (Real.sqrt_pos.2 hp).ne', one_div]

/-- A product with the reciprocal of the root of 768 is the quotient by the root of the literal `768.0`. -/
theorem mul_inv_root (x : EReal) :
    x * (((Real.sqrt 768)⁻¹ : ℝ) : EReal) = Ideal.div x (Ideal.sqrt (Ideal.ofBits .f32 0x44400000#32)) := by
  rw [Consts.width_f32, Ideal.sqrt_coe, if_neg (by norm_num), Ideal.div_coe (Real.sqrt_pos.2 (by norm_num)).ne', one_div]

/-- A finite nonnegative factor moves into a sum. -/
theorem mul_sum_of_nonneg {ι : Type} (s : Finset ι) (f : ι → EReal) {c : ℝ} (hc : 0 ≤ c) :
    (c : EReal) * ∑ i ∈ s, f i = ∑ i ∈ s, (c : EReal) * f i := by
  classical
  induction s using Finset.induction_on with
  | empty => simp
  | insert a s ha ih =>
    rw [Finset.sum_insert ha, Finset.sum_insert ha, ← ih,
      EReal.left_distrib_of_nonneg_of_ne_top (by exact_mod_cast hc) (EReal.coe_ne_top c)]

/-- A nonnegative number times one that is not positive is not positive. -/
theorem mul_nonpos_of_nonneg {a b : EReal} (ha : 0 ≤ a) (hb : b ≤ 0) : a * b ≤ 0 := by
  have := EReal.mul_nonneg ha (EReal.neg_nonneg.2 hb)
  rwa [mul_neg, EReal.neg_nonneg] at this

/-- A finite nonnegative factor moves out of a maximum with 0. -/
theorem max_mul_zero {c : ℝ} (hc : 0 ≤ c) (z : EReal) : max ((c : EReal) * z) 0 = (c : EReal) * max z 0 := by
  have h0 : (0 : EReal) ≤ (c : EReal) := by exact_mod_cast hc
  rcases le_total 0 z with h | h
  · rw [max_eq_left h, max_eq_left (EReal.mul_nonneg h0 h)]
  · rw [max_eq_right h, mul_zero, max_eq_right (mul_nonpos_of_nonneg h0 h)]

/-- The sign the kernel takes of an output weight: 1 at 0 and above, -1 below. -/
def sgn (w : EReal) : EReal :=
  if 0 ≤ w then Ideal.ofBits .f32 0x3F800000#32 else Ideal.ofBits .f32 0xBF800000#32

/-- One hidden unit: the kernel scales the unit's first-layer weights and bias by 64 times the magnitude of its output
    weight, takes the rectified sum, and multiplies by the sign over 64; with a finite output weight that is the
    rectified sum of the unscaled layer times the output weight. -/
theorem unit_eq {n : ℕ} (w : ℝ) (g W : Fin n → EReal) (b : EReal) :
    max ((∑ k, W k * max (w : EReal) (-(w : EReal)) * Ideal.ofBits .f32 0x42800000#32 * g k)
        + b * max (w : EReal) (-(w : EReal)) * Ideal.ofBits .f32 0x42800000#32 * Ideal.ofBits .f32 0x3F800000#32) 0
        * Ideal.div (sgn w) (Ideal.ofBits .f32 0x42800000#32)
      = max ((∑ k, g k * W k) + b) 0 * (w : EReal) := by
  have habs : max (w : EReal) (-(w : EReal)) = ((|w| : ℝ) : EReal) := by
    rw [← EReal.coe_neg, abs_eq_max_neg]
    exact (EReal.coe_strictMono.monotone.map_max).symm
  have hc : 0 ≤ |w| * 64 := by positivity
  have hin : (∑ k, W k * ((|w| : ℝ) : EReal) * ((64 : ℝ) : EReal) * g k) + b * ((|w| : ℝ) : EReal) * ((64 : ℝ) : EReal)
      = ((|w| * 64 : ℝ) : EReal) * ((∑ k, g k * W k) + b) := by
    rw [EReal.left_distrib_of_nonneg_of_ne_top (by exact_mod_cast hc) (EReal.coe_ne_top _), mul_sum_of_nonneg _ _ hc]
    congr 1
    · refine Finset.sum_congr rfl fun k _ => ?_
      rw [mul_assoc (W k), ← EReal.coe_mul, mul_comm (W k), mul_assoc, mul_comm (W k)]
    · rw [mul_assoc, ← EReal.coe_mul, mul_comm]
  rw [habs, Consts.sixtyfour_f32, Consts.one_f32, EReal.coe_one, mul_one, hin, max_mul_zero hc]
  rw [mul_comm ((|w| * 64 : ℝ) : EReal), mul_assoc]
  congr 1
  rw [Ideal.div_coe (by norm_num)]
  unfold sgn
  rw [Consts.one_f32, Consts.neg_one_f32]
  by_cases h : 0 ≤ w
  · rw [if_pos (by exact_mod_cast h), ← EReal.coe_mul, ← EReal.coe_mul, abs_of_nonneg h]
    congr 1; ring
  · rw [if_neg (by exact_mod_cast h), ← EReal.coe_mul, ← EReal.coe_mul, abs_of_neg (not_le.1 h)]
    congr 1; ring

/-- The order of the last sum: the kernel adds the output bias and the mask after the two parts, the reference adds
    the bias to the second part first and subtracts the mask. -/
theorem last_sum (q s b : EReal) (p : Prop) [Decidable p] :
    ((q + s) + b) + (if p then Ideal.ofBits .f32 0xCE6E6B28#32 else Ideal.ofBits .f32 0x00000000#32)
      = (q + (s + b)) - Ideal.ofBits .f32 0x4E6E6B28#32 * (if p then 1 else 0) := by
  rw [add_assoc q s b, sub_eq_add_neg, Consts.neg_billion_f32, Consts.zero_f32, Consts.billion_f32]
  split_ifs
  · rw [mul_one, ← EReal.coe_neg]
  · rw [mul_zero, neg_zero]

end Cert.Scalars

end
-- ==== Proof.Spec.lean ====
/- What both programs compute, in scalars: the features of a pair of boxes, the two-layer network over them, the
   normalised and projected features, and one entry of the result. The form is the reference's. -/
module

public import proofs.«01_k».proof.Proof.Consts

@[expose] public section

noncomputable section

namespace Cert.Spec

open Idealize.ShloMosaic

/-- A box's four coordinates: left, top, right, bottom. -/
abbrev Box := Fin 4 → EReal

/-- An extent between two coordinates, at least 1. -/
def ext (lo hi : EReal) : EReal := max (hi - lo) (Ideal.ofBits .f32 0x3F800000#32)

/-- The middle of two coordinates. -/
def mid (lo hi : EReal) : EReal := Ideal.div (lo + hi) (Ideal.ofBits .f32 0x40000000#32)

/-- The log-ratio of two extents. -/
def ratio (e f : EReal) : EReal := Ideal.log (Ideal.div e f + Ideal.ofBits .f32 0x358637BD#32)

/-- The shift, the growth and the log-ratio from box `a` to box `b`, in units of box `r`. -/
def delta (a b r : Box) : Fin 6 → EReal := ![
  Ideal.div (mid (b 0) (b 2) - mid (a 0) (a 2)) (ext (r 0) (r 2)),
  Ideal.div (mid (b 1) (b 3) - mid (a 1) (a 3)) (ext (r 1) (r 3)),
  Ideal.div (ext (b 0) (b 2) - ext (a 0) (a 2)) (ext (r 0) (r 2)),
  Ideal.div (ext (b 1) (b 3) - ext (a 1) (a 3)) (ext (r 1) (r 3)),
  ratio (ext (b 0) (b 2)) (ext (a 0) (a 2)),
  ratio (ext (b 1) (b 3)) (ext (a 1) (a 3))]

/-- The smallest box around two boxes. -/
def union (a b : Box) : Box := ![min (a 0) (b 0), min (a 1) (b 1), max (a 2) (b 2), max (a 3) (b 3)]

/-- The eighteen features of a pair of boxes. -/
def feats (a b : Box) : Fin 18 → EReal := ![
  delta a b a 0, delta a b a 1, delta a b a 2, delta a b a 3, delta a b a 4, delta a b a 5,
  delta a (union a b) a 0, delta a (union a b) a 1, delta a (union a b) a 2,
  delta a (union a b) a 3, delta a (union a b) a 4, delta a (union a b) a 5,
  delta b (union a b) b 0, delta b (union a b) b 1, delta b (union a b) b 2,
  delta b (union a b) b 3, delta b (union a b) b 4, delta b (union a b) b 5]

/-- The two-layer network over a pair's features, without the output bias. -/
def net (W1 : Fin 18 → Fin 1024 → EReal) (b1 W2 : Fin 1024 → EReal) (f : Fin 18 → EReal) : EReal :=
  ∑ m, max ((∑ k, f k * W1 k m) + b1 m) 0 * W2 m

/-- The mean of a row. -/
def mean (x : Fin 768 → EReal) : EReal := Ideal.div (∑ d, x d) (Ideal.ofBits .f32 0x44400000#32)

/-- The mean squared deviation of a row. -/
def var (x : Fin 768 → EReal) : EReal :=
  Ideal.div (∑ d, (x d - mean x) * (x d - mean x)) (Ideal.ofBits .f32 0x44400000#32)

/-- A row normalised, scaled and shifted. -/
def norm (x gamma beta : Fin 768 → EReal) (d : Fin 768) : EReal :=
  Ideal.div (x d - mean x) (Ideal.sqrt (var x + Ideal.ofBits .f32 0x3727C5AC#32)) * gamma d + beta d

/-- A row times a matrix. -/
def lin (x : Fin 768 → EReal) (W : Fin 768 → Fin 768 → EReal) (n : Fin 768) : EReal := ∑ d, x d * W d n

/-- A row's rectified projection. -/
def proj (x gamma beta : Fin 768 → EReal) (W : Fin 768 → Fin 768 → EReal) (b : Fin 768 → EReal) (n : Fin 768) : EReal :=
  max (lin (norm x gamma beta) W n + b n) 0

/-- The scaled product of two rows. -/
def score (q k : Fin 768 → EReal) : EReal :=
  Ideal.div (∑ n, q n * k n) (Ideal.sqrt (Ideal.ofBits .f32 0x44400000#32))

/-- One entry of the result. -/
def entry (q k : Fin 768 → EReal) (s b2 : EReal) (diag : Prop) [Decidable diag] : EReal :=
  (score q k + (s + b2)) - Ideal.ofBits .f32 0x4E6E6B28#32 * (if diag then 1 else 0)

end Cert.Spec

end
-- ==== Proof.Features.lean ====
/- The values of the pair kernel's body at an index: each of the eighteen feature blocks at row `a`, column `j` is the
   feature of the pair of box `a` of the row block and box `j` of the transposed boxes. -/
module

public import proofs.«01_k».proof.Proof.Gen.KernelIdeal.Frame
public import Idealize.ShloMosaic.Lib.ValueIdx
public import Idealize.ShloMosaic.Lib.Pipeline.Value
public import Idealize.ShloMosaic.Lib.Pipeline.ValueKit.Tiles
public import proofs.«01_k».proof.Proof.Scalars
public import proofs.«01_k».proof.Proof.Spec

@[expose] public section

set_option maxRecDepth 16384

noncomputable section

namespace Cert.KernelIdeal.Hand

open Idealize.ShloMosaic Idealize.ShloMosaic.ValueIdx Cert.KernelIdeal Cert.KernelIdeal.Gen

/-- A row broadcast over the block reads its own column. -/
theorem row_bcast (v : FVec Ideal S1x1024 .f32) (a : Fin 8) (j : Fin 1024) :
    broadcastTo S8x1024 v broadcasts_S1x1024_S8x1024 (ix2 a j) = v (ix2 0 j) :=
  broadcastTo_apply _ _ _ _ (fun b => by
    match b with
    | ⟨0, _⟩ => rfl
    | ⟨1, _⟩ => rfl)

/-- A column broadcast over the block reads its own row. -/
theorem col_bcast (v : FVec Ideal S8x1 .f32) (a : Fin 8) (j : Fin 1024) :
    broadcastTo S8x1024 v broadcasts_S8x1_S8x1024 (ix2 a j) = v (ix2 a 0) :=
  broadcastTo_apply _ _ _ _ (fun b => by
    match b with
    | ⟨0, _⟩ => rfl
    | ⟨1, _⟩ => rfl)

/-- The logarithm of a block at an index. -/
theorem log_apply {s : Shape} (v : FVec Ideal s .f32) (i : s.Idx) : log v i = Ideal.log (v i) := rfl

/-- A row of the transposed boxes, loaded and read. -/
theorem ld_row (x1 : Vec Ideal S4x1024 .f32) (d : Fin 4) (inb : ∀ a, ![d.val, 0] a + S1x1024.size a ≤ S4x1024.size a) (j : Fin 1024) :
    View.ld x1 (Rect.unit (s := S4x1024) ![d.val, 0] S1x1024.size inb) (ix2 0 j) = x1 (ix2 d j) :=
  View.ld_unit_apply_of _ _ _ _ _ _ (fun a => by
    match a with
    | ⟨0, _⟩ => rfl
    | ⟨1, _⟩ => exact (Nat.zero_add _).symm)

/-- A column of the row block's boxes, loaded and read. -/
theorem ld_col (x0 : Vec Ideal S8x4 .f32) (d : Fin 4) (inb : ∀ a, ![0, d.val] a + S8x1.size a ≤ S8x4.size a) (r : Fin 8) :
    View.ld x0 (Rect.unit (s := S8x4) ![0, d.val] S8x1.size inb) (ix2 r 0) = x0 (ix2 r d) :=
  View.ld_unit_apply_of _ _ _ _ _ _ (fun a => by
    match a with
    | ⟨0, _⟩ => exact (Nat.zero_add _).symm
    | ⟨1, _⟩ => rfl)

variable (i : grid1.Coords) (x0 : Vec Ideal S8x4 .f32) (x1 : Vec Ideal S4x1024 .f32) (x2 : Vec Ideal S8x768 .bf16)
  (x3 : Vec Ideal S1024x768 .bf16) (x4 : Vec Ideal S1024x19 .fp8e4m3) (x5 : Vec Ideal S1024x1 .bf16)
  (x6 : Vec Ideal S1x1 .f32) (x7 : Vec Ideal S1x1 .i32) (a : Fin 8) (j : Fin 1024)

/-- Box `a` of the row block. -/
abbrev boxI (x0 : Vec Ideal S8x4 .f32) (a : Fin 8) : Spec.Box := fun d => x0 (ix2 a d)
/-- Box `j` of the transposed boxes. -/
abbrev boxJ (x1 : Vec Ideal S4x1024 .f32) (j : Fin 1024) : Spec.Box := fun d => x1 (ix2 d j)

/-- Coordinate 0 of the column's box. -/
theorem p80_apply : k1_pay80 (F := Ideal) i x0 x1 x2 x3 x4 x5 x6 x7 (ix2 0 j) = boxJ x1 j 0 := by
  unfold k1_pay80 k1_pay1
  rw [shapeCast_self]
  exact ld_row x1 0 _ j

/-- Coordinate 1 of the column's box. -/
theorem p81_apply : k1_pay81 (F := Ideal) i x0 x1 x2 x3 x4 x5 x6 x7 (ix2 0 j) = boxJ x1 j 1 := by
  unfold k1_pay81 k1_pay2
  rw [shapeCast_self]
  exact ld_row x1 1 _ j

/-- Coordinate 2 of the column's box. -/
theorem p82_apply : k1_pay82 (F := Ideal) i x0 x1 x2 x3 x4 x5 x6 x7 (ix2 0 j) = boxJ x1 j 2 := by
  unfold k1_pay82 k1_pay3
  rw [shapeCast_self]
  exact ld_row x1 2 _ j

/-- Coordinate 3 of the column's box. -/
theorem p83_apply : k1_pay83 (F := Ideal) i x0 x1 x2 x3 x4 x5 x6 x7 (ix2 0 j) = boxJ x1 j 3 := by
  unfold k1_pay83 k1_pay4
  rw [shapeCast_self]
  exact ld_row x1 3 _ j

/-- The column's box width. -/
theorem p84_apply : k1_pay84 (F := Ideal) i x0 x1 x2 x3 x4 x5 x6 x7 (ix2 0 j) = Spec.ext (boxJ x1 j 0) (boxJ x1 j 2) := by
  have h0 := p80_apply i x0 x1 x2 x3 x4 x5 x6 x7 j
  have h1 := p82_apply i x0 x1 x2 x3 x4 x5 x6 x7 j
  unfold k1_pay80 at h0; unfold k1_pay82 at h1
  unfold k1_pay84 k1_pay5 Spec.ext
  rw [maximumf_apply, subf_apply, broadcast_apply, h0, h1]; rfl

/-- The column's box height. -/
theorem p85_apply : k1_pay85 (F := Ideal) i x0 x1 x2 x3 x4 x5 x6 x7 (ix2 0 j) = Spec.ext (boxJ x1 j 1) (boxJ x1 j 3) := by
  have h0 := p81_apply i x0 x1 x2 x3 x4 x5 x6 x7 j
  have h1 := p83_apply i x0 x1 x2 x3 x4 x5 x6 x7 j
  unfold k1_pay81 at h0; unfold k1_pay83 at h1
  unfold k1_pay85 k1_pay6 Spec.ext
  rw [maximumf_apply, subf_apply, broadcast_apply, h0, h1]; rfl

/-- The column's box horizontal middle. -/
theorem p86_apply : k1_pay86 (F := Ideal) i x0 x1 x2 x3 x4 x5 x6 x7 (ix2 0 j) = Spec.mid (boxJ x1 j 0) (boxJ x1 j 2) := by
  have h0 := p80_apply i x0 x1 x2 x3 x4 x5 x6 x7 j
  have h1 := p82_apply i x0 x1 x2 x3 x4 x5 x6 x7 j
  unfold k1_pay80 at h0; unfold k1_pay82 at h1
  unfold k1_pay86 k1_pay7 Spec.mid
  rw [mulf_apply, addf_apply, broadcast_apply, h0, h1]; exact Scalars.mul_half _

/-- The column's box vertical middle. -/
theorem p87_apply : k1_pay87 (F := Ideal) i x0 x1 x2 x3 x4 x5 x6 x7 (ix2 0 j) = Spec.mid (boxJ x1 j 1) (boxJ x1 j 3) := by
  have h0 := p81_apply i x0 x1 x2 x3 x4 x5 x6 x7 j
  have h1 := p83_apply i x0 x1 x2 x3 x4 x5 x6 x7 j
  unfold k1_pay81 at h0; unfold k1_pay83 at h1
  unfold k1_pay87 k1_pay8 Spec.mid
  rw [mulf_apply, addf_apply, broadcast_apply, h0, h1]; exact Scalars.mul_half _

/-- The reciprocal of the column's box width. -/
theorem p88_apply : k1_pay88 (F := Ideal) i x0 x1 x2 x3 x4 x5 x6 x7 (ix2 0 j) = Ideal.div (Ideal.ofBits .f32 0x3F800000#32) (Spec.ext (boxJ x1 j 0) (boxJ x1 j 2)) := by
  have h0 := p84_apply i x0 x1 x2 x3 x4 x5 x6 x7 j
  unfold k1_pay84 at h0
  unfold k1_pay88 k1_pay9
  rw [divf_apply, broadcast_apply, h0]; rfl

/-- The reciprocal of the column's box height. -/
theorem p89_apply : k1_pay89 (F := Ideal) i x0 x1 x2 x3 x4 x5 x6 x7 (ix2 0 j) = Ideal.div (Ideal.ofBits .f32 0x3F800000#32) (Spec.ext (boxJ x1 j 1) (boxJ x1 j 3)) := by
  have h0 := p85_apply i x0 x1 x2 x3 x4 x5 x6 x7 j
  unfold k1_pay85 at h0
  unfold k1_pay89 k1_pay10
  rw [divf_apply, broadcast_apply, h0]; rfl

/-- The row of ones. -/
theorem p92_apply : k1_pay92 (F := Ideal) i x0 x1 x2 x3 x4 x5 x6 x7 (ix2 0 j) = Ideal.ofBits .f32 0x3F800000#32 := by
  rfl

/-- Coordinate 0 of the row's box. -/
theorem q0_apply : k1_pay15 (F := Ideal) (View.ld x0 r1_8) (ix2 a 0) = boxI x0 a 0 := by
  unfold k1_pay15
  rw [shapeCast_self]
  exact ld_col x0 0 _ a

/-- Coordinate 1 of the row's box. -/
theorem q1_apply : k1_pay16 (F := Ideal) (View.ld x0 r1_9) (ix2 a 0) = boxI x0 a 1 := by
  unfold k1_pay16
  rw [shapeCast_self]
  exact ld_col x0 1 _ a

/-- Coordinate 2 of the row's box. -/
theorem q2_apply : k1_pay17 (F := Ideal) (View.ld x0 r1_10) (ix2 a 0) = boxI x0 a 2 := by
  unfold k1_pay17
  rw [shapeCast_self]
  exact ld_col x0 2 _ a

/-- Coordinate 3 of the row's box. -/
theorem q3_apply : k1_pay18 (F := Ideal) (View.ld x0 r1_11) (ix2 a 0) = boxI x0 a 3 := by
  unfold k1_pay18
  rw [shapeCast_self]
  exact ld_col x0 3 _ a

/-- The row's box width. -/
theorem p93_apply : k1_pay93 (F := Ideal) i x0 x1 x2 x3 x4 x5 x6 x7 (ix2 a 0) = Spec.ext (boxI x0 a 0) (boxI x0 a 2) := by
  unfold k1_pay93 k1_pay19 Spec.ext
  rw [maximumf_apply, subf_apply, broadcast_apply, q2_apply, q0_apply]; rfl

/-- The row's box height. -/
theorem p94_apply : k1_pay94 (F := Ideal) i x0 x1 x2 x3 x4 x5 x6 x7 (ix2 a 0) = Spec.ext (boxI x0 a 1) (boxI x0 a 3) := by
  unfold k1_pay94 k1_pay20 Spec.ext
  rw [maximumf_apply, subf_apply, broadcast_apply, q3_apply, q1_apply]; rfl

/-- The row's box horizontal middle. -/
theorem p95_apply : k1_pay95 (F := Ideal) i x0 x1 x2 x3 x4 x5 x6 x7 (ix2 a 0) = Spec.mid (boxI x0 a 0) (boxI x0 a 2) := by
  unfold k1_pay95 k1_pay21 Spec.mid
  rw [mulf_apply, addf_apply, broadcast_apply, q0_apply, q2_apply]; exact Scalars.mul_half _

/-- The row's box vertical middle. -/
theorem p96_apply : k1_pay96 (F := Ideal) i x0 x1 x2 x3 x4 x5 x6 x7 (ix2 a 0) = Spec.mid (boxI x0 a 1) (boxI x0 a 3) := by
  unfold k1_pay96 k1_pay22 Spec.mid
  rw [mulf_apply, addf_apply, broadcast_apply, q1_apply, q3_apply]; exact Scalars.mul_half _

/-- The reciprocal of the row's box width. -/
theorem p97_apply : k1_pay97 (F := Ideal) i x0 x1 x2 x3 x4 x5 x6 x7 (ix2 a 0) = Ideal.div (Ideal.ofBits .f32 0x3F800000#32) (Spec.ext (boxI x0 a 0) (boxI x0 a 2)) := by
  have h0 := p93_apply i x0 x1 x2 x3 x4 x5 x6 x7 a
  unfold k1_pay93 at h0
  unfold k1_pay97 k1_pay23
  rw [divf_apply, broadcast_apply, h0]; rfl

/-- The reciprocal of the row's box height. -/
theorem p98_apply : k1_pay98 (F := Ideal) i x0 x1 x2 x3 x4 x5 x6 x7 (ix2 a 0) = Ideal.div (Ideal.ofBits .f32 0x3F800000#32) (Spec.ext (boxI x0 a 1) (boxI x0 a 3)) := by
  have h0 := p94_apply i x0 x1 x2 x3 x4 x5 x6 x7 a
  unfold k1_pay94 at h0
  unfold k1_pay98 k1_pay24
  rw [divf_apply, broadcast_apply, h0]; rfl

/-- Coordinate 0 of the union box. -/
theorem p99_apply : k1_pay99 (F := Ideal) i x0 x1 x2 x3 x4 x5 x6 x7 (ix2 a j) = Spec.union (boxI x0 a) (boxJ x1 j) 0 := by
  unfold k1_pay99 k1_pay25
  rw [minimumf_apply, col_bcast, row_bcast, q0_apply, p80_apply]; rfl

/-- Coordinate 1 of the union box. -/
theorem p100_apply : k1_pay100 (F := Ideal) i x0 x1 x2 x3 x4 x5 x6 x7 (ix2 a j) = Spec.union (boxI x0 a) (boxJ x1 j) 1 := by
  unfold k1_pay100 k1_pay26
  rw [minimumf_apply, col_bcast, row_bcast, q1_apply, p81_apply]; rfl

/-- Coordinate 2 of the union box. -/
theorem p101_apply : k1_pay101 (F := Ideal) i x0 x1 x2 x3 x4 x5 x6 x7 (ix2 a j) = Spec.union (boxI x0 a) (boxJ x1 j) 2 := by
  unfold k1_pay101 k1_pay27
  rw [maximumf_apply, col_bcast, row_bcast, q2_apply, p82_apply]; rfl

/-- Coordinate 3 of the union box. -/
theorem p102_apply : k1_pay102 (F := Ideal) i x0 x1 x2 x3 x4 x5 x6 x7 (ix2 a j) = Spec.union (boxI x0 a) (boxJ x1 j) 3 := by
  unfold k1_pay102 k1_pay28
  rw [maximumf_apply, col_bcast, row_bcast, q3_apply, p83_apply]; rfl

/-- The union box's width. -/
theorem p103_apply : k1_pay103 (F := Ideal) i x0 x1 x2 x3 x4 x5 x6 x7 (ix2 a j) = Spec.ext (Spec.union (boxI x0 a) (boxJ x1 j) 0) (Spec.union (boxI x0 a) (boxJ x1 j) 2) := by
  have h0 := p99_apply i x0 x1 x2 x3 x4 x5 x6 x7 a j
  have h1 := p101_apply i x0 x1 x2 x3 x4 x5 x6 x7 a j
  unfold k1_pay99 at h0; unfold k1_pay101 at h1
  unfold k1_pay103 Spec.ext
  unfold k1_pay29
  rw [maximumf_apply, subf_apply, broadcast_apply, h0, h1]; rfl

/-- The union box's height. -/
theorem p106_apply : k1_pay106 (F := Ideal) i x0 x1 x2 x3 x4 x5 x6 x7 (ix2 a j) = Spec.ext (Spec.union (boxI x0 a) (boxJ x1 j) 1) (Spec.union (boxI x0 a) (boxJ x1 j) 3) := by
  have h0 := p100_apply i x0 x1 x2 x3 x4 x5 x6 x7 a j
  have h1 := p102_apply i x0 x1 x2 x3 x4 x5 x6 x7 a j
  unfold k1_pay100 at h0; unfold k1_pay102 at h1
  unfold k1_pay106 Spec.ext
  unfold k1_pay32 k1_pay104 k1_pay105 k1_pay30 k1_pay31
  rw [maximumf_apply, subf_apply, broadcast_apply, h0, h1]; rfl

/-- The union box's horizontal middle. -/
theorem p107_apply : k1_pay107 (F := Ideal) i x0 x1 x2 x3 x4 x5 x6 x7 (ix2 a j) = Spec.mid (Spec.union (boxI x0 a) (boxJ x1 j) 0) (Spec.union (boxI x0 a) (boxJ x1 j) 2) := by
  unfold k1_pay107 k1_pay33 Spec.mid
  rw [mulf_apply, addf_apply, broadcast_apply, p99_apply, p101_apply]; exact Scalars.mul_half _

/-- The union box's vertical middle. -/
theorem p108_apply : k1_pay108 (F := Ideal) i x0 x1 x2 x3 x4 x5 x6 x7 (ix2 a j) = Spec.mid (Spec.union (boxI x0 a) (boxJ x1 j) 1) (Spec.union (boxI x0 a) (boxJ x1 j) 3) := by
  unfold k1_pay108 k1_pay34 Spec.mid
  rw [mulf_apply, addf_apply, broadcast_apply, p100_apply, p102_apply]; exact Scalars.mul_half _

/-- An extent is at least 1. -/
theorem one_le_ext (lo hi : EReal) : Ideal.ofBits .f32 0x3F800000#32 ≤ Spec.ext lo hi := le_max_right _ _

/-- Feature 0 of the pair. -/
theorem p109_apply : k1_pay109 (F := Ideal) i x0 x1 x2 x3 x4 x5 x6 x7 (ix2 a j) = Spec.feats (boxI x0 a) (boxJ x1 j) 0 := by
  unfold k1_pay109 k1_pay35
  simp only [mulf_apply, subf_apply, addf_apply, log_apply, broadcast_apply, col_bcast, row_bcast, p86_apply, p95_apply, p97_apply]
  rw [Scalars.mul_recip (one_le_ext _ _)]; rfl

/-- Feature 1 of the pair. -/
theorem p110_apply : k1_pay110 (F := Ideal) i x0 x1 x2 x3 x4 x5 x6 x7 (ix2 a j) = Spec.feats (boxI x0 a) (boxJ x1 j) 1 := by
  unfold k1_pay110 k1_pay36
  simp only [mulf_apply, subf_apply, addf_apply, log_apply, broadcast_apply, col_bcast, row_bcast, p87_apply, p96_apply, p98_apply]
  rw [Scalars.mul_recip (one_le_ext _ _)]; rfl

/-- Feature 2 of the pair. -/
theorem p111_apply : k1_pay111 (F := Ideal) i x0 x1 x2 x3 x4 x5 x6 x7 (ix2 a j) = Spec.feats (boxI x0 a) (boxJ x1 j) 2 := by
  unfold k1_pay111 k1_pay37
  simp only [mulf_apply, subf_apply, addf_apply, log_apply, broadcast_apply, col_bcast, row_bcast, p84_apply, p93_apply, p97_apply]
  rw [Scalars.mul_recip (one_le_ext _ _)]; rfl

/-- Feature 3 of the pair. -/
theorem p112_apply : k1_pay112 (F := Ideal) i x0 x1 x2 x3 x4 x5 x6 x7 (ix2 a j) = Spec.feats (boxI x0 a) (boxJ x1 j) 3 := by
  unfold k1_pay112 k1_pay38
  simp only [mulf_apply, subf_apply, addf_apply, log_apply, broadcast_apply, col_bcast, row_bcast, p85_apply, p94_apply, p98_apply]
  rw [Scalars.mul_recip (one_le_ext _ _)]; rfl

/-- Feature 4 of the pair. -/
theorem p113_apply : k1_pay113 (F := Ideal) i x0 x1 x2 x3 x4 x5 x6 x7 (ix2 a j) = Spec.feats (boxI x0 a) (boxJ x1 j) 4 := by
  unfold k1_pay113 k1_pay39
  simp only [mulf_apply, subf_apply, addf_apply, log_apply, broadcast_apply, col_bcast, row_bcast, p84_apply, p97_apply]
  rw [Scalars.mul_recip (one_le_ext _ _)]; rfl

/-- Feature 5 of the pair. -/
theorem p114_apply : k1_pay114 (F := Ideal) i x0 x1 x2 x3 x4 x5 x6 x7 (ix2 a j) = Spec.feats (boxI x0 a) (boxJ x1 j) 5 := by
  unfold k1_pay114 k1_pay40
  simp only [mulf_apply, subf_apply, addf_apply, log_apply, broadcast_apply, col_bcast, row_bcast, p85_apply, p98_apply]
  rw [Scalars.mul_recip (one_le_ext _ _)]; rfl

/-- Feature 6 of the pair. -/
theorem p115_apply : k1_pay115 (F := Ideal) i x0 x1 x2 x3 x4 x5 x6 x7 (ix2 a j) = Spec.feats (boxI x0 a) (boxJ x1 j) 6 := by
  have h0 := p107_apply i x0 x1 x2 x3 x4 x5 x6 x7 a j
  unfold k1_pay107 at h0
  unfold k1_pay115 k1_pay41
  simp only [mulf_apply, subf_apply, addf_apply, log_apply, broadcast_apply, col_bcast, row_bcast, h0, p95_apply, p97_apply]
  rw [Scalars.mul_recip (one_le_ext _ _)]; rfl

/-- Feature 7 of the pair. -/
theorem p116_apply : k1_pay116 (F := Ideal) i x0 x1 x2 x3 x4 x5 x6 x7 (ix2 a j) = Spec.feats (boxI x0 a) (boxJ x1 j) 7 := by
  have h0 := p108_apply i x0 x1 x2 x3 x4 x5 x6 x7 a j
  unfold k1_pay108 at h0
  unfold k1_pay116 k1_pay42
  simp only [mulf_apply, subf_apply, addf_apply, log_apply, broadcast_apply, col_bcast, row_bcast, h0, p96_apply, p98_apply]
  rw [Scalars.mul_recip (one_le_ext _ _)]; rfl

/-- Feature 8 of the pair. -/
theorem p117_apply : k1_pay117 (F := Ideal) i x0 x1 x2 x3 x4 x5 x6 x7 (ix2 a j) = Spec.feats (boxI x0 a) (boxJ x1 j) 8 := by
  unfold k1_pay117 k1_pay43
  simp only [mulf_apply, subf_apply, addf_apply, log_apply, broadcast_apply, col_bcast, row_bcast, p103_apply, p93_apply, p97_apply]
  rw [Scalars.mul_recip (one_le_ext _ _)]; rfl

/-- Feature 9 of the pair. -/
theorem p118_apply : k1_pay118 (F := Ideal) i x0 x1 x2 x3 x4 x5 x6 x7 (ix2 a j) = Spec.feats (boxI x0 a) (boxJ x1 j) 9 := by
  have h0 := p106_apply i x0 x1 x2 x3 x4 x5 x6 x7 a j
  unfold k1_pay106 at h0
  unfold k1_pay118 k1_pay44
  simp only [mulf_apply, subf_apply, addf_apply, log_apply, broadcast_apply, col_bcast, row_bcast, h0, p94_apply, p98_apply]
  rw [Scalars.mul_recip (one_le_ext _ _)]; rfl

/-- Feature 10 of the pair. -/
theorem p120_apply : k1_pay120 (F := Ideal) i x0 x1 x2 x3 x4 x5 x6 x7 (ix2 a j) = Spec.feats (boxI x0 a) (boxJ x1 j) 10 := by
  unfold k1_pay120 k1_pay46 k1_pay119 k1_pay45
  simp only [mulf_apply, subf_apply, addf_apply, log_apply, broadcast_apply, col_bcast, row_bcast, p103_apply, p97_apply]
  rw [Scalars.mul_recip (one_le_ext _ _)]; rfl

/-- Feature 11 of the pair. -/
theorem p121_apply : k1_pay121 (F := Ideal) i x0 x1 x2 x3 x4 x5 x6 x7 (ix2 a j) = Spec.feats (boxI x0 a) (boxJ x1 j) 11 := by
  unfold k1_pay121 k1_pay47
  simp only [mulf_apply, subf_apply, addf_apply, log_apply, broadcast_apply, col_bcast, row_bcast, p106_apply, p98_apply]
  rw [Scalars.mul_recip (one_le_ext _ _)]; rfl

/-- Feature 12 of the pair. -/
theorem p122_apply : k1_pay122 (F := Ideal) i x0 x1 x2 x3 x4 x5 x6 x7 (ix2 a j) = Spec.feats (boxI x0 a) (boxJ x1 j) 12 := by
  unfold k1_pay122 k1_pay48
  simp only [mulf_apply, subf_apply, addf_apply, log_apply, broadcast_apply, col_bcast, row_bcast, p107_apply, p86_apply, p88_apply]
  rw [Scalars.mul_recip (one_le_ext _ _)]; rfl

/-- Feature 13 of the pair. -/
theorem p123_apply : k1_pay123 (F := Ideal) i x0 x1 x2 x3 x4 x5 x6 x7 (ix2 a j) = Spec.feats (boxI x0 a) (boxJ x1 j) 13 := by
  unfold k1_pay123 k1_pay49
  simp only [mulf_apply, subf_apply, addf_apply, log_apply, broadcast_apply, col_bcast, row_bcast, p108_apply, p87_apply, p89_apply]
  rw [Scalars.mul_recip (one_le_ext _ _)]; rfl

/-- Feature 14 of the pair. -/
theorem p124_apply : k1_pay124 (F := Ideal) i x0 x1 x2 x3 x4 x5 x6 x7 (ix2 a j) = Spec.feats (boxI x0 a) (boxJ x1 j) 14 := by
  unfold k1_pay124 k1_pay50
  simp only [mulf_apply, subf_apply, addf_apply, log_apply, broadcast_apply, col_bcast, row_bcast, p103_apply, p84_apply, p88_apply]
  rw [Scalars.mul_recip (one_le_ext _ _)]; rfl

/-- Feature 15 of the pair. -/
theorem p125_apply : k1_pay125 (F := Ideal) i x0 x1 x2 x3 x4 x5 x6 x7 (ix2 a j) = Spec.feats (boxI x0 a) (boxJ x1 j) 15 := by
  unfold k1_pay125 k1_pay51
  simp only [mulf_apply, subf_apply, addf_apply, log_apply, broadcast_apply, col_bcast, row_bcast, p106_apply, p85_apply, p89_apply]
  rw [Scalars.mul_recip (one_le_ext _ _)]; rfl

/-- Feature 16 of the pair. -/
theorem p126_apply : k1_pay126 (F := Ideal) i x0 x1 x2 x3 x4 x5 x6 x7 (ix2 a j) = Spec.feats (boxI x0 a) (boxJ x1 j) 16 := by
  unfold k1_pay126 k1_pay52
  simp only [mulf_apply, subf_apply, addf_apply, log_apply, broadcast_apply, col_bcast, row_bcast, p103_apply, p88_apply]
  rw [Scalars.mul_recip (one_le_ext _ _)]; rfl

/-- Feature 17 of the pair. -/
theorem p127_apply : k1_pay127 (F := Ideal) i x0 x1 x2 x3 x4 x5 x6 x7 (ix2 a j) = Spec.feats (boxI x0 a) (boxJ x1 j) 17 := by
  unfold k1_pay127 k1_pay53
  simp only [mulf_apply, subf_apply, addf_apply, log_apply, broadcast_apply, col_bcast, row_bcast, p106_apply, p89_apply]
  rw [Scalars.mul_recip (one_le_ext _ _)]; rfl

/-- The eighteen feature blocks of the body, in the order the rows stack them. -/
def blocks : Fin 18 → FVec Ideal S8x1024 .f32 := ![
  k1_pay109 i x0 x1 x2 x3 x4 x5 x6 x7,
  k1_pay110 i x0 x1 x2 x3 x4 x5 x6 x7,
  k1_pay111 i x0 x1 x2 x3 x4 x5 x6 x7,
  k1_pay112 i x0 x1 x2 x3 x4 x5 x6 x7,
  k1_pay113 i x0 x1 x2 x3 x4 x5 x6 x7,
  k1_pay114 i x0 x1 x2 x3 x4 x5 x6 x7,
  k1_pay115 i x0 x1 x2 x3 x4 x5 x6 x7,
  k1_pay116 i x0 x1 x2 x3 x4 x5 x6 x7,
  k1_pay117 i x0 x1 x2 x3 x4 x5 x6 x7,
  k1_pay118 i x0 x1 x2 x3 x4 x5 x6 x7,
  k1_pay120 i x0 x1 x2 x3 x4 x5 x6 x7,
  k1_pay121 i x0 x1 x2 x3 x4 x5 x6 x7,
  k1_pay122 i x0 x1 x2 x3 x4 x5 x6 x7,
  k1_pay123 i x0 x1 x2 x3 x4 x5 x6 x7,
  k1_pay124 i x0 x1 x2 x3 x4 x5 x6 x7,
  k1_pay125 i x0 x1 x2 x3 x4 x5 x6 x7,
  k1_pay126 i x0 x1 x2 x3 x4 x5 x6 x7,
  k1_pay127 i x0 x1 x2 x3 x4 x5 x6 x7]

/-- Each feature block at an index is the pair's feature. -/
theorem blocks_apply (k : Fin 18) :
    blocks i x0 x1 x2 x3 x4 x5 x6 x7 k (ix2 a j) = Spec.feats (boxI x0 a) (boxJ x1 j) k := by
  match k with
  | ⟨0, _⟩ => exact p109_apply i x0 x1 x2 x3 x4 x5 x6 x7 a j
  | ⟨1, _⟩ => exact p110_apply i x0 x1 x2 x3 x4 x5 x6 x7 a j
  | ⟨2, _⟩ => exact p111_apply i x0 x1 x2 x3 x4 x5 x6 x7 a j
  | ⟨3, _⟩ => exact p112_apply i x0 x1 x2 x3 x4 x5 x6 x7 a j
  | ⟨4, _⟩ => exact p113_apply i x0 x1 x2 x3 x4 x5 x6 x7 a j
  | ⟨5, _⟩ => exact p114_apply i x0 x1 x2 x3 x4 x5 x6 x7 a j
  | ⟨6, _⟩ => exact p115_apply i x0 x1 x2 x3 x4 x5 x6 x7 a j
  | ⟨7, _⟩ => exact p116_apply i x0 x1 x2 x3 x4 x5 x6 x7 a j
  | ⟨8, _⟩ => exact p117_apply i x0 x1 x2 x3 x4 x5 x6 x7 a j
  | ⟨9, _⟩ => exact p118_apply i x0 x1 x2 x3 x4 x5 x6 x7 a j
  | ⟨10, _⟩ => exact p120_apply i x0 x1 x2 x3 x4 x5 x6 x7 a j
  | ⟨11, _⟩ => exact p121_apply i x0 x1 x2 x3 x4 x5 x6 x7 a j
  | ⟨12, _⟩ => exact p122_apply i x0 x1 x2 x3 x4 x5 x6 x7 a j
  | ⟨13, _⟩ => exact p123_apply i x0 x1 x2 x3 x4 x5 x6 x7 a j
  | ⟨14, _⟩ => exact p124_apply i x0 x1 x2 x3 x4 x5 x6 x7 a j
  | ⟨15, _⟩ => exact p125_apply i x0 x1 x2 x3 x4 x5 x6 x7 a j
  | ⟨16, _⟩ => exact p126_apply i x0 x1 x2 x3 x4 x5 x6 x7 a j
  | ⟨17, _⟩ => exact p127_apply i x0 x1 x2 x3 x4 x5 x6 x7 a j
  | ⟨n + 18, h⟩ => exact absurd h (by omega)

end Cert.KernelIdeal.Hand

end
-- ==== Proof.Block.lean ====
/- What the pair kernel stores at one grid point, at an index of its block: the scaled product of the row's queries and
   the column's keys, plus the network over the pair's features, plus the output bias, plus the mask of the diagonal. -/
module

public import proofs.«01_k».proof.Proof.Row
public import proofs.«01_k».proof.Proof.Features
public import Idealize.ShloMosaic.Lib.Pipeline.ValueKit.Basic

@[expose] public section

set_option maxRecDepth 16384

noncomputable section

namespace Cert.KernelIdeal.Hand

open Idealize.ShloMosaic Idealize.ShloMosaic.ValueIdx Cert.KernelIdeal Cert.KernelIdeal.Gen

/-- One row of a block is a slice of it. -/
theorem slices_row (r : Fin 8) : S8x1024.Slices ![r.val, 0] S1x1024 := by
  match r with
  | ⟨0, _⟩ => exact slices_S8x1024_o0_0_S1x1024
  | ⟨1, _⟩ => exact slices_S8x1024_o1_0_S1x1024
  | ⟨2, _⟩ => exact slices_S8x1024_o2_0_S1x1024
  | ⟨3, _⟩ => exact slices_S8x1024_o3_0_S1x1024
  | ⟨4, _⟩ => exact slices_S8x1024_o4_0_S1x1024
  | ⟨5, _⟩ => exact slices_S8x1024_o5_0_S1x1024
  | ⟨6, _⟩ => exact slices_S8x1024_o6_0_S1x1024
  | ⟨7, _⟩ => exact slices_S8x1024_o7_0_S1x1024
  | ⟨n + 8, h⟩ => exact absurd h (by omega)

/-- Row `r` of the block's second summand. -/
def blockRow (W : FVec Ideal S1024x19 .fp8e4m3) (S : FVec Ideal S1024x1 .bf16) (c : Fin 18 → FVec Ideal S8x1024 .f32)
    (ones : FVec Ideal S1x1024 .f32) (r : Fin 8) : FVec Ideal S1x1024 .f32 :=
  rowOf W S (stack ![r.val, 0] (slices_row r) c ones)

/-- The mask of the diagonal: the large negative number where the row's number is the column's. -/
def mask (g0 g1 : BitVec 32) (off : Vec Ideal S1x1 .i32) : FVec Ideal S8x1024 .f32 :=
  select (cmpi .eq (addi (broadcast S8x1024 (Scalar.addi (extractAt ![0, 0] off inpos_S1x1_p0_0) (Scalar.muli g1 8#32)))
      (iota .tc S8x1024 32 [0] iota_S8x1024_d0_w32))
    (addi (broadcast S8x1024 (Scalar.muli g0 1024#32)) (iota .tc S8x1024 32 [1] iota_S8x1024_d1_w32)))
    (broadcast S8x1024 (Scalar.ofBits (F := Ideal) .f32 0xCE6E6B28#32)) (broadcast S8x1024 (Scalar.ofBits .f32 0x00000000#32))

/-- The last payload: its last row finished, the rows stacked, and the four summands added. -/
theorem last_payload (g0 g1 : BitVec 32) (q : FVec Ideal S8x1024 .f32) (R : Fin 8 → FVec Ideal S1x1024 .f32)
    (v : FVec Ideal S512x1024 .bf16) (hv : tree512 v = R 7) (off : Vec Ideal S1x1 .i32) (b : Vec Ideal S1x1 .f32) :
    k1_pay79 g0 g1 q (R 0) (R 1) (R 2) (R 3) (R 4) (R 5) (R 6) v off b
      = addf (addf (addf q (concatenate S8x1024 0 (List.ofFn fun r => (⟨S1x1024, R r⟩ : (s : Shape) × (s.Idx → EReal)))
          concatenates_S1x1024_S1x1024_S1x1024_S1x1024_S1x1024_S1x1024_S1x1024_S1x1024_S8x1024_d0))
        (broadcast S8x1024 (extractAt ![0, 0] b inpos_S1x1_p0_0))) (mask g0 g1 off) := by
  have h : k1_pay79 g0 g1 q (R 0) (R 1) (R 2) (R 3) (R 4) (R 5) (R 6) v off b
      = addf (addf (addf q (concatenate S8x1024 0 [⟨S1x1024, R 0⟩, ⟨S1x1024, R 1⟩, ⟨S1x1024, R 2⟩, ⟨S1x1024, R 3⟩,
          ⟨S1x1024, R 4⟩, ⟨S1x1024, R 5⟩, ⟨S1x1024, R 6⟩, ⟨S1x1024, tree512 v⟩]
          concatenates_S1x1024_S1x1024_S1x1024_S1x1024_S1x1024_S1x1024_S1x1024_S1x1024_S8x1024_d0))
        (broadcast S8x1024 (extractAt ![0, 0] b inpos_S1x1_p0_0))) (mask g0 g1 off) := rfl
  rw [h, hv]
  rfl

variable (i : grid1.Coords) (x0 : Vec Ideal S8x4 .f32) (x1 : Vec Ideal S4x1024 .f32) (x2 : Vec Ideal S8x768 .bf16)
  (x3 : Vec Ideal S1024x768 .bf16) (x4 : Vec Ideal S1024x19 .fp8e4m3) (x5 : Vec Ideal S1024x1 .bf16)
  (x6 : Vec Ideal S1x1 .f32) (x7 : Vec Ideal S1x1 .i32) (a : Fin 8) (j : Fin 1024)

/-- The rows of the block the body stores. -/
abbrev bodyRows : Fin 8 → FVec Ideal S1x1024 .f32 :=
  blockRow (k1_pay90 i x0 x1 x2 x3 x4 x5 x6 x7) (k1_pay91 i x0 x1 x2 x3 x4 x5 x6 x7) (blocks i x0 x1 x2 x3 x4 x5 x6 x7) (k1_pay92 i x0 x1 x2 x3 x4 x5 x6 x7)

/-- The stored block in closed form. -/
theorem out1_8_eq : out1_8 (F := Ideal) i x0 x1 x2 x3 x4 x5 x6 x7
    = addf (addf (addf (k1_pay11 (View.ld x2 r1_4) (View.ld x3 r1_5)) (concatenate S8x1024 0
          (List.ofFn fun r => (⟨S1x1024, bodyRows i x0 x1 x2 x3 x4 x5 x6 x7 r⟩ : (s : Shape) × (s.Idx → EReal)))
          concatenates_S1x1024_S1x1024_S1x1024_S1x1024_S1x1024_S1x1024_S1x1024_S1x1024_S8x1024_d0))
        (broadcast S8x1024 (extractAt ![0, 0] (View.ld x6 r1_12) inpos_S1x1_p0_0)))
      (mask (BitVec.ofNat 32 (i 0).val) (BitVec.ofNat 32 (i 1).val) (View.ld x7 r1_12)) := by
  refine Eq.trans ?_ (last_payload _ _ _ (bodyRows i x0 x1 x2 x3 x4 x5 x6 x7)
    (halve slices_S1024x1024_o0_0_S512x1024 slices_S1024x1024_o512_0_S512x1024 (hidden (k1_pay90 i x0 x1 x2 x3 x4 x5 x6 x7) (k1_pay91 i x0 x1 x2 x3 x4 x5 x6 x7)
      (stack ![7, 0] slices_S8x1024_o7_0_S1x1024 (blocks i x0 x1 x2 x3 x4 x5 x6 x7) (k1_pay92 i x0 x1 x2 x3 x4 x5 x6 x7)))) rfl _ _)
  unfold out1_8
  rw [View.canon_unit_zero (by funext a; match a with | ⟨0, _⟩ => rfl | ⟨1, _⟩ => rfl)]
  rfl

/-- The scaled products of the row block's queries with the keys. -/
theorem score_apply (q : Vec Ideal S8x768 .bf16) (k : Vec Ideal S1024x768 .bf16) :
    k1_pay11 q k (ix2 a j) = Spec.score (fun n => q (ix2 a n)) (fun n => k (ix2 j n)) := by
  unfold k1_pay11 Spec.score
  simp only [matmul]
  rw [mulf_apply, broadcast_apply, shapeCast_self, shapeCast_self, Ideal.matmul_constant_zero_apply,
    show (Named.named (F := Ideal) κ "inv_sqrt_h" (φ := .f32) 0x3D13CD3A#32) = (((Real.sqrt 768)⁻¹ : ℝ) : EReal) from
      IdealRules.named_const.ideal_named_scalar _ _ _ _ rfl, Scalars.mul_inv_root]
  congr 1
  refine (Equiv.sum_comp (contrEquiv1 dot_S8x768_S1024x768_S8x1024_1_1_0_0_n_n 768 rfl rfl).symm _).symm.trans ?_
  refine Finset.sum_congr rfl fun n _ => ?_
  congr 2 <;> exact Shape.idx_ext₂ rfl rfl

/-- Row `r` of the second summand: the network with the weights and signs the windows hold, over the pair's features
    and a one. -/
theorem bodyRows_apply (r : Fin 8) :
    bodyRows i x0 x1 x2 x3 x4 x5 x6 x7 r (ix2 0 j)
      = ∑ m : Fin 1024, max ((∑ k : Fin 18, x4 (ix2 m k.castSucc) * Spec.feats (boxI x0 r) (boxJ x1 j) k)
          + x4 (ix2 m (Fin.last 18)) * Ideal.ofBits .f32 0x3F800000#32) 0 * x5 (ix2 m 0) := by
  unfold bodyRows blockRow
  rw [rowOf_apply]
  refine Finset.sum_congr rfl fun m _ => ?_
  rw [Fin.sum_univ_castSucc, stack_ones, p92_apply]
  have h4 : k1_pay90 (F := Ideal) i x0 x1 x2 x3 x4 x5 x6 x7 = x4 := by
    unfold k1_pay90 k1_pay12
    rw [shapeCast_self, View.ld_unit_zero (by funext b; match b with | ⟨0, _⟩ => rfl | ⟨1, _⟩ => rfl)]
  have h5 : k1_pay91 (F := Ideal) i x0 x1 x2 x3 x4 x5 x6 x7 = x5 := by
    unfold k1_pay91 k1_pay13
    rw [shapeCast_self, View.ld_unit_zero (by funext b; match b with | ⟨0, _⟩ => rfl | ⟨1, _⟩ => rfl)]
  rw [h4, h5]
  congr 3
  refine Finset.sum_congr rfl fun k _ => ?_
  rw [stack_feature _ _ _ _ k j r rfl rfl, blocks_apply]

/-- A selection on two words' equality. -/
theorem select_words (u v : BitVec 32) (x y : EReal) :
    Scalar.select (IntOp.cmpi .eq u v) x y = if u = v then x else y := by
  unfold Scalar.select IntOp.cmpi
  by_cases h : u = v
  · subst h; simp
  · have e : (u == v) = false := beq_eq_false_iff_ne.2 h
    refine (if_neg ?_).trans (if_neg h).symm
    show ¬ BitVec.ofBool (u == v) = 1#1
    rw [e]
    decide

/-- The mask at an index, with the row offset 0 and the first grid coordinate 0. -/
theorem mask_apply (g1 : ℕ) (h1 : g1 < 128) (off : Vec Ideal S1x1 .i32) (hoff : off (ix2 0 0) = 0#32) :
    mask (BitVec.ofNat 32 0) (BitVec.ofNat 32 g1) off (ix2 a j)
      = if g1 * 8 + a.val = j.val then Ideal.ofBits .f32 0xCE6E6B28#32 else Ideal.ofBits .f32 0x00000000#32 := by
  have hx : extractAt ![0, 0] off inpos_S1x1_p0_0 = 0#32 := by
    rw [← hoff]; exact congrArg off (Shape.idx_ext₂ rfl rfl)
  unfold mask
  rw [select_apply, hx]
  show Scalar.select (IntOp.cmpi .eq ((0#32 + BitVec.ofNat 32 g1 * 8#32) + iota .tc S8x1024 32 [0] iota_S8x1024_d0_w32 (ix2 a j))
    (BitVec.ofNat 32 0 * 1024#32 + iota .tc S8x1024 32 [1] iota_S8x1024_d1_w32 (ix2 a j))) (Ideal.ofBits .f32 0xCE6E6B28#32)
    (Ideal.ofBits .f32 0x00000000#32) = _
  rw [iota_single_apply, iota_single_apply]
  have e : ((0#32 + BitVec.ofNat 32 g1 * 8#32) + BitVec.ofNat 32 a.val = BitVec.ofNat 32 0 * 1024#32 + BitVec.ofNat 32 j.val)
      ↔ g1 * 8 + a.val = j.val := by
    have ha := a.isLt
    have hj := j.isLt
    constructor
    · intro h
      have := congrArg BitVec.toNat h
      simp only [BitVec.toNat_add, BitVec.toNat_mul, BitVec.toNat_ofNat] at this
      omega
    · intro h
      apply BitVec.eq_of_toNat_eq
      simp only [BitVec.toNat_add, BitVec.toNat_mul, BitVec.toNat_ofNat]
      omega
  rw [select_words]
  exact if_congr e rfl rfl

/-- The stored block at an index. -/
theorem out1_8_apply (h0 : (i 0).val = 0) (h1 : (i 1).val < 128) (h7 : x7 (ix2 0 0) = 0#32) :
    out1_8 (F := Ideal) i x0 x1 x2 x3 x4 x5 x6 x7 (ix2 a j)
      = ((Spec.score (fun n => x2 (ix2 a n)) (fun n => x3 (ix2 j n))
          + ∑ m : Fin 1024, max ((∑ k : Fin 18, x4 (ix2 m k.castSucc) * Spec.feats (boxI x0 a) (boxJ x1 j) k)
            + x4 (ix2 m (Fin.last 18)) * Ideal.ofBits .f32 0x3F800000#32) 0 * x5 (ix2 m 0)) + x6 (ix2 0 0))
        + if (i 1).val * 8 + a.val = j.val then Ideal.ofBits .f32 0xCE6E6B28#32 else Ideal.ofBits .f32 0x00000000#32 := by
  rw [out1_8_eq, addf_apply, addf_apply, addf_apply, score_apply, broadcast_apply, h0,
    View.ld_unit_zero (by funext b; match b with | ⟨0, _⟩ => rfl | ⟨1, _⟩ => rfl),
    View.ld_unit_zero (by funext b; match b with | ⟨0, _⟩ => rfl | ⟨1, _⟩ => rfl),
    View.ld_unit_zero (by funext b; match b with | ⟨0, _⟩ => rfl | ⟨1, _⟩ => rfl),
    View.ld_unit_zero (by funext b; match b with | ⟨0, _⟩ => rfl | ⟨1, _⟩ => rfl), mask_apply a j _ h1 x7 h7]
  congr 2
  · congr 1
    exact (concatenate_ofFn_unit_apply (t := S8x1024) (s₁ := S1x1024) 0 (bodyRows i x0 x1 x2 x3 x4 x5 x6 x7)
      concatenates_S1x1024_S1x1024_S1x1024_S1x1024_S1x1024_S1x1024_S1x1024_S1x1024_S8x1024_d0 rfl rfl (ix2 a j) a rfl (ix2 0 j) (fun b hb => by
        match b with
        | ⟨0, _⟩ => exact absurd rfl hb
        | ⟨1, _⟩ => rfl)).trans (bodyRows_apply i x0 x1 x2 x3 x4 x5 x6 x7 j a)
  · exact congrArg x6 (Shape.idx_ext₂ rfl rfl)

end Cert.KernelIdeal.Hand

end
-- ==== Proof.Region0.lean ====
/- What the feature kernel stores, at an index: row `r` of its two results is the row's rectified projection times one
   of the two last matrices. -/
module

public import proofs.«01_k».proof.Proof.Gen.KernelIdeal.Frame
public import Idealize.ShloMosaic.Lib.ValueIdx
public import Idealize.ShloMosaic.PureOps.Ideal.Laws
public import Idealize.ShloMosaic.Lib.Pipeline.Value
public import Idealize.ShloMosaic.Lib.Pipeline.ValueKit.Tiles
public import Idealize.ShloMosaic.Lib.Pipeline.ValueKit.Basic
public import proofs.«01_k».proof.Proof.Scalars
public import proofs.«01_k».proof.Proof.Spec

@[expose] public section

set_option maxRecDepth 16384

noncomputable section

namespace Cert.KernelIdeal.Hand

open Idealize.ShloMosaic Idealize.ShloMosaic.ValueIdx Cert.KernelIdeal Cert.KernelIdeal.Gen

/-- The sum of each row, kept as a column. -/
def keepSum (v : FVec Ideal S1024x768 .f32) : FVec Ideal S1024x1 .f32 :=
  shapeCast S1024x1 (multiReduction .add [1] S1024 v 0x00000000#32 reduces_S1024x768_S1024 (.inl rfl) rfl) shapeCasts_S1024_S1024x1

/-- The mean of each row, as a column. -/
def rowMean (v : FVec Ideal S1024x768 .f32) : FVec Ideal S1024x1 .f32 :=
  divf (keepSum v) (broadcast S1024x1 (Scalar.ofBits .f32 0x44400000#32))

/-- Each row less its mean. -/
def centred (v : FVec Ideal S1024x768 .f32) : FVec Ideal S1024x768 .f32 :=
  subf v (broadcastTo S1024x768 (rowMean v) broadcasts_S1024x1_S1024x768)

/-- Each row normalised, scaled and shifted. -/
def normed (v : FVec Ideal S1024x768 .f32) (g b : FVec Ideal S1x768 .f32) : FVec Ideal S1024x768 .f32 :=
  addf (mulf (mulf (centred v) (broadcastTo S1024x768 (rsqrt (addf (rowMean (mulf (centred v) (centred v)))
      (broadcast S1024x1 (Scalar.ofBits .f32 0x3727C5AC#32)))) broadcasts_S1024x1_S1024x768))
    (broadcastTo S1024x768 g broadcasts_S1x768_S1024x768)) (broadcastTo S1024x768 b broadcasts_S1x768_S1024x768)

/-- A row's sum is the sum of its elements. -/
theorem keepSum_apply (v : FVec Ideal S1024x768 .f32) (r : Fin 1024) : keepSum v (ix2 r 0) = ∑ d : Fin 768, v (ix2 r d) := by
  unfold keepSum
  refine (shapeCast_apply _ _ _ (ix1 r) (by
    rw [Shape.rowMajor_val_two, Shape.rowMajor_val_one]; show r.val = r.val * 1 + 0; omega)).trans ?_
  refine (Ideal.multiReduction_add_single _ _ _ _ _ _).trans ?_
  exact Finset.sum_congr rfl fun k _ => congrArg v (Shape.idx_ext₂ rfl rfl)

/-- A row's mean. -/
theorem rowMean_apply (v : FVec Ideal S1024x768 .f32) (r : Fin 1024) :
    rowMean v (ix2 r 0) = Spec.mean (fun d => v (ix2 r d)) := by
  unfold rowMean Spec.mean
  rw [divf_apply, keepSum_apply]
  rfl

/-- A column broadcast over the rows. -/
theorem col768 (v : FVec Ideal S1024x1 .f32) (r : Fin 1024) (d : Fin 768) :
    broadcastTo S1024x768 v broadcasts_S1024x1_S1024x768 (ix2 r d) = v (ix2 r 0) :=
  broadcastTo_apply _ _ _ _ (fun b => by
    match b with
    | ⟨0, _⟩ => rfl
    | ⟨1, _⟩ => rfl)

/-- A row broadcast over the rows. -/
theorem row768 (v : FVec Ideal S1x768 .f32) (r : Fin 1024) (d : Fin 768) :
    broadcastTo S1024x768 v broadcasts_S1x768_S1024x768 (ix2 r d) = v (ix2 0 d) :=
  broadcastTo_apply _ _ _ _ (fun b => by
    match b with
    | ⟨0, _⟩ => rfl
    | ⟨1, _⟩ => rfl)

/-- An element less its row's mean. -/
theorem centred_apply (v : FVec Ideal S1024x768 .f32) (r : Fin 1024) (d : Fin 768) :
    centred v (ix2 r d) = v (ix2 r d) - Spec.mean (fun d => v (ix2 r d)) := by
  unfold centred
  rw [subf_apply, col768, rowMean_apply]

/-- An element of the normalised rows. -/
theorem normed_apply (v : FVec Ideal S1024x768 .f32) (g b : FVec Ideal S1x768 .f32) (r : Fin 1024) (d : Fin 768) :
    normed v g b (ix2 r d) = Spec.norm (fun d => v (ix2 r d)) (fun d => g (ix2 0 d)) (fun d => b (ix2 0 d)) d := by
  unfold normed Spec.norm
  rw [addf_apply, mulf_apply, mulf_apply, centred_apply, col768, row768, row768]
  congr 2
  have hv : Spec.mean (fun d => mulf (centred v) (centred v) (ix2 r d)) = Spec.var (fun d => v (ix2 r d)) := by
    unfold Spec.var
    conv_lhs => unfold Spec.mean
    congr 1
    refine Finset.sum_congr rfl fun d _ => ?_
    show mulf (centred v) (centred v) (ix2 r d) = _
    rw [mulf_apply, centred_apply]
  have hs : rsqrt (addf (rowMean (mulf (centred v) (centred v))) (broadcast S1024x1 (Scalar.ofBits .f32 0x3727C5AC#32))) (ix2 r 0)
      = Ideal.rsqrt (Spec.var (fun d => v (ix2 r d)) + Ideal.ofBits .f32 0x3727C5AC#32) := by
    rw [← hv, ← rowMean_apply]
    rfl
  rw [hs]
  exact Scalars.mul_rsqrt (Scalars.div_width_nonneg (Finset.sum_nonneg fun d _ => Scalars.mul_self_nonneg _)) _

/-- The rows times a square matrix. -/
theorem dot768_apply (A : FVec Ideal S1024x768 .bf16) (B : FVec Ideal S768x768 .bf16) (r : Fin 1024) (n : Fin 768) :
    matmul dot_S1024x768_S768x768_S1024x768_1_0_0_1_n_n none A B (constant (F := Ideal) S1024x768 .f32 0x00000000#32) (ix2 r n)
      = ∑ d : Fin 768, A (ix2 r d) * B (ix2 d n) := by
  simp only [matmul]
  rw [Ideal.matmul_constant_zero_apply]
  refine (Equiv.sum_comp (contrEquiv1 dot_S1024x768_S768x768_S1024x768_1_0_0_1_n_n 768 rfl rfl).symm _).symm.trans ?_
  refine Finset.sum_congr rfl fun n _ => ?_
  congr 2 <;> exact Shape.idx_ext₂ rfl rfl

/-- The projected rows. -/
theorem pay3_apply (v0 : Vec Ideal S1024x768 .bf16) (g b : Vec Ideal S1x768 .f32) (W : Vec Ideal S768x768 .bf16)
    (c : Vec Ideal S1x768 .f32) (r : Fin 1024) (n : Fin 768) :
    k0_pay3 v0 g b W c (ix2 r n)
      = Spec.proj (fun d => v0 (ix2 r d)) (fun d => g (ix2 0 d)) (fun d => b (ix2 0 d)) (fun d n => W (ix2 d n))
          (fun d => c (ix2 0 d)) n := by
  have h : k0_pay3 v0 g b W c = maximumf (addf (matmul dot_S1024x768_S768x768_S1024x768_1_0_0_1_n_n none
      (truncf .bf16 (normed (extf .f32 (shapeCast S1024x768 v0 shapeCasts_S1024x768_S1024x768) bitsLt_bf16_f32)
        (shapeCast S1x768 g shapeCasts_S1x768_S1x768) (shapeCast S1x768 b shapeCasts_S1x768_S1x768)) bitsLt_bf16_f32)
      (shapeCast S768x768 W shapeCasts_S768x768_S768x768) (constant (F := Ideal) S1024x768 .f32 0x00000000#32))
      (broadcastTo S1024x768 (shapeCast S1x768 c shapeCasts_S1x768_S1x768) broadcasts_S1x768_S1024x768))
      (broadcast S1024x768 (Scalar.ofBits (F := Ideal) .f32 0x00000000#32)) := rfl
  rw [h, maximumf_apply, addf_apply, dot768_apply, row768, shapeCast_self, shapeCast_self, shapeCast_self, shapeCast_self,
    shapeCast_self, broadcast_apply]
  show max _ (Ideal.ofBits .f32 0x00000000#32) = _
  rw [Consts.zero_f32]
  unfold Spec.proj Spec.lin
  congr 2
  refine Finset.sum_congr rfl fun d _ => ?_
  rw [truncf_apply]
  congr 1
  exact normed_apply _ _ _ _ _

variable (x0 : Vec Ideal S1024x768 .bf16) (x1 x2 : Vec Ideal S1x768 .f32) (x3 : Vec Ideal S768x768 .bf16)
  (x4 : Vec Ideal S1x768 .f32) (x5 x6 : Vec Ideal S768x768 .bf16) (r : Fin 1024) (n : Fin 768)

/-- The projected rows, as the body reads its windows. -/
theorem pay5_apply : k0_pay5 x0 x1 x2 x3 x4 x5 x6 (ix2 r n)
    = Spec.proj (fun d => x0 (ix2 r d)) (fun d => x1 (ix2 0 d)) (fun d => x2 (ix2 0 d)) (fun d n => x3 (ix2 d n))
        (fun d => x4 (ix2 0 d)) n := by
  unfold k0_pay5
  rw [pay3_apply, View.ld_unit_zero (by funext b; match b with | ⟨0, _⟩ => rfl | ⟨1, _⟩ => rfl),
    View.ld_unit_zero (by funext b; match b with | ⟨0, _⟩ => rfl | ⟨1, _⟩ => rfl),
    View.ld_unit_zero (by funext b; match b with | ⟨0, _⟩ => rfl | ⟨1, _⟩ => rfl),
    View.ld_unit_zero (by funext b; match b with | ⟨0, _⟩ => rfl | ⟨1, _⟩ => rfl),
    View.ld_unit_zero (by funext b; match b with | ⟨0, _⟩ => rfl | ⟨1, _⟩ => rfl)]

/-- The first result, at an index: the projected row times the first matrix. -/
theorem out0_7_apply : out0_7 x0 x1 x2 x3 x4 x5 x6 (ix2 r n)
    = Spec.lin (Spec.proj (fun d => x0 (ix2 r d)) (fun d => x1 (ix2 0 d)) (fun d => x2 (ix2 0 d)) (fun d n => x3 (ix2 d n))
        (fun d => x4 (ix2 0 d))) (fun d n => x5 (ix2 d n)) n := by
  unfold out0_7 k0_pay1 k0_pay4
  rw [View.canon_unit_zero (by funext b; match b with | ⟨0, _⟩ => rfl | ⟨1, _⟩ => rfl), truncf_apply, dot768_apply,
    shapeCast_self, View.ld_unit_zero (by funext b; match b with | ⟨0, _⟩ => rfl | ⟨1, _⟩ => rfl)]
  unfold Spec.lin
  exact Finset.sum_congr rfl fun d _ => congrArg (· * _) (pay5_apply x0 x1 x2 x3 x4 x5 x6 r d)

/-- The second result, at an index: the projected row times the second matrix. -/
theorem out0_8_apply : out0_8 x0 x1 x2 x3 x4 x5 x6 (ix2 r n)
    = Spec.lin (Spec.proj (fun d => x0 (ix2 r d)) (fun d => x1 (ix2 0 d)) (fun d => x2 (ix2 0 d)) (fun d n => x3 (ix2 d n))
        (fun d => x4 (ix2 0 d))) (fun d n => x6 (ix2 d n)) n := by
  unfold out0_8 k0_pay2
  rw [View.canon_unit_zero (by funext b; match b with | ⟨0, _⟩ => rfl | ⟨1, _⟩ => rfl), truncf_apply, dot768_apply,
    shapeCast_self, View.ld_unit_zero (by funext b; match b with | ⟨0, _⟩ => rfl | ⟨1, _⟩ => rfl)]
  unfold Spec.lin
  exact Finset.sum_congr rfl fun d _ => congrArg (· * _) (pay5_apply x0 x1 x2 x3 x4 x5 x6 r d)

end Cert.KernelIdeal.Hand

end
-- ==== Proof.Arrays.lean ====
/- What the two kernels leave in their result arrays, at an index, from what they find in the arrays they read. -/
module

public import proofs.«01_k».proof.Proof.Block
public import proofs.«01_k».proof.Proof.Region0
public import Idealize.ShloMosaic.Lib.Pipeline.ValueKit.Geometry

@[expose] public section

set_option maxRecDepth 16384

noncomputable section

namespace Cert.KernelIdeal.Hand

open Idealize.ShloMosaic Idealize.ShloMosaic.ValueIdx Idealize.ShloMosaic.TcCoe Cert.KernelIdeal Cert.KernelIdeal.Gen Idealize.SL.Sem

variable (V : (c : Dev nD) → (b : Ref sig .tc) → Buf (Elt Ideal) ((c : Thread nD τ).loc b)) (c : Dev nD)

/-! ## The feature kernel: one point, every window its whole array -/

/-- Window 0 of kernel 0 stands at its array's start. -/
theorem start0_0 : ∀ t : Fin cfg0.N, win0_0.index t (0 : Fin 2) = 0 ∧ win0_0.index t (1 : Fin 2) = 0 :=
  (by decide +kernel : ∀ t : Fin grid0.N, _)

/-- Window 0 of kernel 0 is its array. -/
theorem block0_0 (t : Fin cfg0.N) (a : Fin 1024) (b : Fin 768) : iblk0 V c 0 t (ix2 a b) = V c main_v2 (ix2 a b) := by
  show V c main_v2 (((cfg0.win 0).blk t).view.emb (ix2 a b)) = _
  obtain ⟨e0, e1⟩ := start0_0 t
  refine congrArg (V c main_v2) (Shape.idx_ext₂ ?_ ?_)
  · show win0_0.index t (0 : Fin 2) * 1024 + 1 * a.val = a.val; omega
  · show win0_0.index t (1 : Fin 2) * 768 + 1 * b.val = b.val; omega

/-- Window 1 of kernel 0 stands at its array's start. -/
theorem start0_1 : ∀ t : Fin cfg0.N, win0_1.index t (0 : Fin 2) = 0 ∧ win0_1.index t (1 : Fin 2) = 0 :=
  (by decide +kernel : ∀ t : Fin grid0.N, _)

/-- Window 1 of kernel 0 is its array. -/
theorem block0_1 (t : Fin cfg0.N) (a : Fin 1) (b : Fin 768) : iblk0 V c 1 t (ix2 a b) = V c main_v30 (ix2 a b) := by
  show V c main_v30 (((cfg0.win 1).blk t).view.emb (ix2 a b)) = _
  obtain ⟨e0, e1⟩ := start0_1 t
  refine congrArg (V c main_v30) (Shape.idx_ext₂ ?_ ?_)
  · show win0_1.index t (0 : Fin 2) * 1 + 1 * a.val = a.val; omega
  · show win0_1.index t (1 : Fin 2) * 768 + 1 * b.val = b.val; omega

/-- Window 2 of kernel 0 stands at its array's start. -/
theorem start0_2 : ∀ t : Fin cfg0.N, win0_2.index t (0 : Fin 2) = 0 ∧ win0_2.index t (1 : Fin 2) = 0 :=
  (by decide +kernel : ∀ t : Fin grid0.N, _)

/-- Window 2 of kernel 0 is its array. -/
theorem block0_2 (t : Fin cfg0.N) (a : Fin 1) (b : Fin 768) : iblk0 V c 2 t (ix2 a b) = V c main_v31 (ix2 a b) := by
  show V c main_v31 (((cfg0.win 2).blk t).view.emb (ix2 a b)) = _
  obtain ⟨e0, e1⟩ := start0_2 t
  refine congrArg (V c main_v31) (Shape.idx_ext₂ ?_ ?_)
  · show win0_2.index t (0 : Fin 2) * 1 + 1 * a.val = a.val; omega
  · show win0_2.index t (1 : Fin 2) * 768 + 1 * b.val = b.val; omega

/-- Window 3 of kernel 0 stands at its array's start. -/
theorem start0_3 : ∀ t : Fin cfg0.N, win0_3.index t (0 : Fin 2) = 0 ∧ win0_3.index t (1 : Fin 2) = 0 :=
  (by decide +kernel : ∀ t : Fin grid0.N, _)

/-- Window 3 of kernel 0 is its array. -/
theorem block0_3 (t : Fin cfg0.N) (a : Fin 768) (b : Fin 768) : iblk0 V c 3 t (ix2 a b) = V c main_v33 (ix2 a b) := by
  show V c main_v33 (((cfg0.win 3).blk t).view.emb (ix2 a b)) = _
  obtain ⟨e0, e1⟩ := start0_3 t
  refine congrArg (V c main_v33) (Shape.idx_ext₂ ?_ ?_)
  · show win0_3.index t (0 : Fin 2) * 768 + 1 * a.val = a.val; omega
  · show win0_3.index t (1 : Fin 2) * 768 + 1 * b.val = b.val; omega

/-- Window 4 of kernel 0 stands at its array's start. -/
theorem start0_4 : ∀ t : Fin cfg0.N, win0_4.index t (0 : Fin 2) = 0 ∧ win0_4.index t (1 : Fin 2) = 0 :=
  (by decide +kernel : ∀ t : Fin grid0.N, _)

/-- Window 4 of kernel 0 is its array. -/
theorem block0_4 (t : Fin cfg0.N) (a : Fin 1) (b : Fin 768) : iblk0 V c 4 t (ix2 a b) = V c main_v32 (ix2 a b) := by
  show V c main_v32 (((cfg0.win 4).blk t).view.emb (ix2 a b)) = _
  obtain ⟨e0, e1⟩ := start0_4 t
  refine congrArg (V c main_v32) (Shape.idx_ext₂ ?_ ?_)
  · show win0_4.index t (0 : Fin 2) * 1 + 1 * a.val = a.val; omega
  · show win0_4.index t (1 : Fin 2) * 768 + 1 * b.val = b.val; omega

/-- Window 5 of kernel 0 stands at its array's start. -/
theorem start0_5 : ∀ t : Fin cfg0.N, win0_5.index t (0 : Fin 2) = 0 ∧ win0_5.index t (1 : Fin 2) = 0 :=
  (by decide +kernel : ∀ t : Fin grid0.N, _)

/-- Window 5 of kernel 0 is its array. -/
theorem block0_5 (t : Fin cfg0.N) (a : Fin 768) (b : Fin 768) : iblk0 V c 5 t (ix2 a b) = V c main_v34 (ix2 a b) := by
  show V c main_v34 (((cfg0.win 5).blk t).view.emb (ix2 a b)) = _
  obtain ⟨e0, e1⟩ := start0_5 t
  refine congrArg (V c main_v34) (Shape.idx_ext₂ ?_ ?_)
  · show win0_5.index t (0 : Fin 2) * 768 + 1 * a.val = a.val; omega
  · show win0_5.index t (1 : Fin 2) * 768 + 1 * b.val = b.val; omega

/-- Window 6 of kernel 0 stands at its array's start. -/
theorem start0_6 : ∀ t : Fin cfg0.N, win0_6.index t (0 : Fin 2) = 0 ∧ win0_6.index t (1 : Fin 2) = 0 :=
  (by decide +kernel : ∀ t : Fin grid0.N, _)

/-- Window 6 of kernel 0 is its array. -/
theorem block0_6 (t : Fin cfg0.N) (a : Fin 768) (b : Fin 768) : iblk0 V c 6 t (ix2 a b) = V c main_v35 (ix2 a b) := by
  show V c main_v35 (((cfg0.win 6).blk t).view.emb (ix2 a b)) = _
  obtain ⟨e0, e1⟩ := start0_6 t
  refine congrArg (V c main_v35) (Shape.idx_ext₂ ?_ ?_)
  · show win0_6.index t (0 : Fin 2) * 768 + 1 * a.val = a.val; omega
  · show win0_6.index t (1 : Fin 2) * 768 + 1 * b.val = b.val; omega

/-- Result 0 of the feature kernel: each row's rectified projection times the matrix in `main_v34`. -/
theorem features_7 (r : Fin 1024) (n : Fin 768) : (dat0 V c).arrAt 7 cfg0.N (ix2 r n)
    = Spec.lin (Spec.proj (fun d => V c main_v2 (ix2 r d)) (fun d => V c main_v30 (ix2 0 d)) (fun d => V c main_v31 (ix2 0 d))
        (fun d n => V c main_v33 (ix2 d n)) (fun d => V c main_v32 (ix2 0 d))) (fun d n => V c main_v34 (ix2 d n)) n := by
  refine ((dat0 V c).arrAt_emb_eq_after_last 7 (⟨0, by decide +kernel⟩ : Fin grid0.N) (by decide +kernel) (ix2 r n)).trans ?_
  show (dat0 V c).after 7 (⟨0, by decide +kernel⟩ : Fin grid0.N) (ix2 r n) = _
  rw [after0_7]
  refine (out0_7_apply _ _ _ _ _ _ _ r n).trans ?_
  simp only [block0_0, block0_1, block0_2, block0_3, block0_4, block0_5]

/-- Result 1 of the feature kernel: each row's rectified projection times the matrix in `main_v35`. -/
theorem features_8 (r : Fin 1024) (n : Fin 768) : (dat0 V c).arrAt 8 cfg0.N (ix2 r n)
    = Spec.lin (Spec.proj (fun d => V c main_v2 (ix2 r d)) (fun d => V c main_v30 (ix2 0 d)) (fun d => V c main_v31 (ix2 0 d))
        (fun d n => V c main_v33 (ix2 d n)) (fun d => V c main_v32 (ix2 0 d))) (fun d n => V c main_v35 (ix2 d n)) n := by
  refine ((dat0 V c).arrAt_emb_eq_after_last 8 (⟨0, by decide +kernel⟩ : Fin grid0.N) (by decide +kernel) (ix2 r n)).trans ?_
  show (dat0 V c).after 8 (⟨0, by decide +kernel⟩ : Fin grid0.N) (ix2 r n) = _
  rw [after0_8]
  refine (out0_8_apply _ _ _ _ _ _ _ r n).trans ?_
  simp only [block0_0, block0_1, block0_2, block0_3, block0_4, block0_6]

/-! ## The pair kernel: point `t` stores rows `8 t` to `8 t + 7` -/

/-- A point's coordinates. -/
theorem coords1 : ∀ t : Fin cfg1.N, (grid1.coords t 0).val = 0 ∧ (grid1.coords t 1).val = t.val :=
  (by decide +kernel : ∀ t : Fin grid1.N, _)

/-- There are 128 points. -/
theorem points1 (t : Fin cfg1.N) : t.val < 128 := lt_of_lt_of_eq t.isLt (show grid1.N = 128 by decide +kernel)

/-- Row `a` of point `t`. -/
def rowAt (t : Fin cfg1.N) (a : Fin 8) : Fin 1024 := ⟨t.val * 8 + a.val, by have := points1 t; have := a.isLt; omega⟩

/-- Window 0 of the pair kernel moves down by a block a point. -/
theorem start1_0 : ∀ t : Fin cfg1.N, win1_0.index t (0 : Fin 2) = t.val ∧ win1_0.index t (1 : Fin 2) = 0 :=
  (by decide +kernel : ∀ t : Fin grid1.N, _)

/-- Window 0 of the pair kernel is the point's rows of its array. -/
theorem block1_0 (t : Fin cfg1.N) (a : Fin 8) (b : Fin 4) : iblk1 V c 0 t (ix2 a b) = V c main_v7 (ix2 (rowAt t a) b) := by
  show V c main_v7 (((cfg1.win 0).blk t).view.emb (ix2 a b)) = _
  obtain ⟨e0, e1⟩ := start1_0 t
  refine congrArg (V c main_v7) (Shape.idx_ext₂ ?_ ?_)
  · show win1_0.index t (0 : Fin 2) * 8 + 1 * a.val = t.val * 8 + a.val; omega
  · show win1_0.index t (1 : Fin 2) * 4 + 1 * b.val = b.val; omega

/-- Window 2 of the pair kernel moves down by a block a point. -/
theorem start1_2 : ∀ t : Fin cfg1.N, win1_2.index t (0 : Fin 2) = t.val ∧ win1_2.index t (1 : Fin 2) = 0 :=
  (by decide +kernel : ∀ t : Fin grid1.N, _)

/-- Window 2 of the pair kernel is the point's rows of its array. -/
theorem block1_2 (t : Fin cfg1.N) (a : Fin 8) (b : Fin 768) : iblk1 V c 2 t (ix2 a b) = V c main_v36_0 (ix2 (rowAt t a) b) := by
  show V c main_v36_0 (((cfg1.win 2).blk t).view.emb (ix2 a b)) = _
  obtain ⟨e0, e1⟩ := start1_2 t
  refine congrArg (V c main_v36_0) (Shape.idx_ext₂ ?_ ?_)
  · show win1_2.index t (0 : Fin 2) * 8 + 1 * a.val = t.val * 8 + a.val; omega
  · show win1_2.index t (1 : Fin 2) * 768 + 1 * b.val = b.val; omega

/-- Window 8 of the pair kernel moves down by a block a point. -/
theorem start1_8 : ∀ t : Fin cfg1.N, win1_8.index t (0 : Fin 2) = t.val ∧ win1_8.index t (1 : Fin 2) = 0 :=
  (by decide +kernel : ∀ t : Fin grid1.N, _)

/-- The block stored at point `t` is the point's rows of the result. -/
theorem place1_8 (t : Fin cfg1.N) (a : Fin 8) (b : Fin 1024) : ((cfg1.win 8).blk t).view.emb (ix2 a b) = ix2 (rowAt t a) b := by
  obtain ⟨e0, e1⟩ := start1_8 t
  refine Shape.idx_ext₂ ?_ ?_
  · show win1_8.index t (0 : Fin 2) * 8 + 1 * a.val = t.val * 8 + a.val; omega
  · show win1_8.index t (1 : Fin 2) * 1024 + 1 * b.val = b.val; omega

/-- Window 1 of kernel 1 stands at its array's start. -/
theorem start1_1 : ∀ t : Fin cfg1.N, win1_1.index t (0 : Fin 2) = 0 ∧ win1_1.index t (1 : Fin 2) = 0 :=
  (by decide +kernel : ∀ t : Fin grid1.N, _)

/-- Window 1 of kernel 1 is its array. -/
theorem block1_1 (t : Fin cfg1.N) (a : Fin 4) (b : Fin 1024) : iblk1 V c 1 t (ix2 a b) = V c main_v8 (ix2 a b) := by
  show V c main_v8 (((cfg1.win 1).blk t).view.emb (ix2 a b)) = _
  obtain ⟨e0, e1⟩ := start1_1 t
  refine congrArg (V c main_v8) (Shape.idx_ext₂ ?_ ?_)
  · show win1_1.index t (0 : Fin 2) * 4 + 1 * a.val = a.val; omega
  · show win1_1.index t (1 : Fin 2) * 1024 + 1 * b.val = b.val; omega

/-- Window 3 of kernel 1 stands at its array's start. -/
theorem start1_3 : ∀ t : Fin cfg1.N, win1_3.index t (0 : Fin 2) = 0 ∧ win1_3.index t (1 : Fin 2) = 0 :=
  (by decide +kernel : ∀ t : Fin grid1.N, _)

/-- Window 3 of kernel 1 is its array. -/
theorem block1_3 (t : Fin cfg1.N) (a : Fin 1024) (b : Fin 768) : iblk1 V c 3 t (ix2 a b) = V c main_v36_1 (ix2 a b) := by
  show V c main_v36_1 (((cfg1.win 3).blk t).view.emb (ix2 a b)) = _
  obtain ⟨e0, e1⟩ := start1_3 t
  refine congrArg (V c main_v36_1) (Shape.idx_ext₂ ?_ ?_)
  · show win1_3.index t (0 : Fin 2) * 1024 + 1 * a.val = a.val; omega
  · show win1_3.index t (1 : Fin 2) * 768 + 1 * b.val = b.val; omega

/-- Window 4 of kernel 1 stands at its array's start. -/
theorem start1_4 : ∀ t : Fin cfg1.N, win1_4.index t (0 : Fin 2) = 0 ∧ win1_4.index t (1 : Fin 2) = 0 :=
  (by decide +kernel : ∀ t : Fin grid1.N, _)

/-- Window 4 of kernel 1 is its array. -/
theorem block1_4 (t : Fin cfg1.N) (a : Fin 1024) (b : Fin 19) : iblk1 V c 4 t (ix2 a b) = V c main_v20 (ix2 a b) := by
  show V c main_v20 (((cfg1.win 4).blk t).view.emb (ix2 a b)) = _
  obtain ⟨e0, e1⟩ := start1_4 t
  refine congrArg (V c main_v20) (Shape.idx_ext₂ ?_ ?_)
  · show win1_4.index t (0 : Fin 2) * 1024 + 1 * a.val = a.val; omega
  · show win1_4.index t (1 : Fin 2) * 19 + 1 * b.val = b.val; omega

/-- Window 5 of kernel 1 stands at its array's start. -/
theorem start1_5 : ∀ t : Fin cfg1.N, win1_5.index t (0 : Fin 2) = 0 ∧ win1_5.index t (1 : Fin 2) = 0 :=
  (by decide +kernel : ∀ t : Fin grid1.N, _)

/-- Window 5 of kernel 1 is its array. -/
theorem block1_5 (t : Fin cfg1.N) (a : Fin 1024) (b : Fin 1) : iblk1 V c 5 t (ix2 a b) = V c main_v27 (ix2 a b) := by
  show V c main_v27 (((cfg1.win 5).blk t).view.emb (ix2 a b)) = _
  obtain ⟨e0, e1⟩ := start1_5 t
  refine congrArg (V c main_v27) (Shape.idx_ext₂ ?_ ?_)
  · show win1_5.index t (0 : Fin 2) * 1024 + 1 * a.val = a.val; omega
  · show win1_5.index t (1 : Fin 2) * 1 + 1 * b.val = b.val; omega

/-- Window 6 of kernel 1 stands at its array's start. -/
theorem start1_6 : ∀ t : Fin cfg1.N, win1_6.index t (0 : Fin 2) = 0 ∧ win1_6.index t (1 : Fin 2) = 0 :=
  (by decide +kernel : ∀ t : Fin grid1.N, _)

/-- Window 6 of kernel 1 is its array. -/
theorem block1_6 (t : Fin cfg1.N) (a : Fin 1) (b : Fin 1) : iblk1 V c 6 t (ix2 a b) = V c main_v37 (ix2 a b) := by
  show V c main_v37 (((cfg1.win 6).blk t).view.emb (ix2 a b)) = _
  obtain ⟨e0, e1⟩ := start1_6 t
  refine congrArg (V c main_v37) (Shape.idx_ext₂ ?_ ?_)
  · show win1_6.index t (0 : Fin 2) * 1 + 1 * a.val = a.val; omega
  · show win1_6.index t (1 : Fin 2) * 1 + 1 * b.val = b.val; omega

/-- Window 7 of kernel 1 stands at its array's start. -/
theorem start1_7 : ∀ t : Fin cfg1.N, win1_7.index t (0 : Fin 2) = 0 ∧ win1_7.index t (1 : Fin 2) = 0 :=
  (by decide +kernel : ∀ t : Fin grid1.N, _)

/-- Window 7 of kernel 1 is its array. -/
theorem block1_7 (t : Fin cfg1.N) (a : Fin 1) (b : Fin 1) : iblk1 V c 7 t (ix2 a b) = V c main_v38 (ix2 a b) := by
  show V c main_v38 (((cfg1.win 7).blk t).view.emb (ix2 a b)) = _
  obtain ⟨e0, e1⟩ := start1_7 t
  refine congrArg (V c main_v38) (Shape.idx_ext₂ ?_ ?_)
  · show win1_7.index t (0 : Fin 2) * 1 + 1 * a.val = a.val; omega
  · show win1_7.index t (1 : Fin 2) * 1 + 1 * b.val = b.val; omega

/-- An element of the pair kernel's result, from the arrays it reads: the queries, the keys, the scaled first layer, the
    signs, the boxes, the transposed boxes and the output bias. -/
def pairOf (q k : FVec Ideal S1024x768 .bf16) (W : FVec Ideal S1024x19 .fp8e4m3) (S : FVec Ideal S1024x1 .bf16)
    (b : FVec Ideal S1024x4 .f32) (bT : FVec Ideal S4x1024 .f32) (b2 : FVec Ideal S1x1 .f32) (r j : Fin 1024) : EReal :=
  ((Spec.score (fun n => q (ix2 r n)) (fun n => k (ix2 j n))
      + ∑ m : Fin 1024, max ((∑ l : Fin 18, W (ix2 m l.castSucc) * Spec.feats (fun d => b (ix2 r d)) (fun d => bT (ix2 d j)) l)
        + W (ix2 m (Fin.last 18)) * Ideal.ofBits .f32 0x3F800000#32) 0 * S (ix2 m 0)) + b2 (ix2 0 0))
    + if r.val = j.val then Ideal.ofBits .f32 0xCE6E6B28#32 else Ideal.ofBits .f32 0x00000000#32

/-- The same from the contents the pair kernel finds. -/
abbrev pairVal (r j : Fin 1024) : EReal :=
  pairOf (V c main_v36_0) (V c main_v36_1) (V c main_v20) (V c main_v27) (V c main_v7) (V c main_v8) (V c main_v37) r j

/-- The pair kernel's result, where its row offset is 0. -/
theorem pairs_8 (h : V c main_v38 (ix2 0 0) = 0#32) (r j : Fin 1024) :
    (dat1 V c).arrAt 8 cfg1.N (ix2 r j) = pairVal V c r j := by
  have key : (dat1 V c).arrAt 8 cfg1.N = fun i => pairVal V c (i 0) (i 1) := by
    refine (dat1 V c).arrAt_eq_of_covers 8 _ (by decide +kernel) fun t _ y => ?_
    obtain ⟨a, b, rfl⟩ : ∃ (a : Fin 8) (b : Fin 1024), y = ix2 a b := ⟨y 0, y 1, Shape.idx_ext₂ rfl rfl⟩
    rw [place1_8]
    show (dat1 V c).after 8 t (ix2 a b) = pairVal V c (rowAt t a) b
    rw [after1_8]
    obtain ⟨e0, e1⟩ := coords1 t
    refine (out1_8_apply _ _ _ _ _ _ _ _ _ a b e0 (by rw [e1]; exact points1 t) ((block1_7 V c t 0 0).trans h)).trans ?_
    rw [e1]
    unfold pairVal pairOf boxI boxJ
    simp only [block1_0, block1_1, block1_2, block1_3, block1_4, block1_5, block1_6]
    rfl
  rw [key]
  rfl

end Cert.KernelIdeal.Hand

end
-- ==== Proof.HostIn.lean ====
/- What the host operations before the two kernels leave in the arrays the kernels read, at an index, in the argument
   arrays' elements. -/
module

public import proofs.«01_k».proof.Proof.Gen.KernelIdeal.Frame
public import Idealize.ShloMosaic.Lib.ValueIdx
public import Idealize.ShloMosaic.PureOps.Ideal.Laws
public import Idealize.ShloMosaic.Lib.Pipeline.Value
public import Idealize.ShloMosaic.Lib.Pipeline.ValueKit.Tiles
public import Idealize.ShloMosaic.Lib.Pipeline.ValueKit.Basic
public import Idealize.ShloMosaic.Lib.KernelVsHost
public import proofs.«01_k».proof.Proof.Scalars

@[expose] public section

set_option maxRecDepth 16384

noncomputable section

namespace Cert.KernelIdeal.Hand

open Idealize.ShloMosaic Idealize.ShloMosaic.ValueIdx Idealize.ShloMosaic.StableHlo Cert.KernelIdeal Cert.KernelIdeal.Gen

/-! ## The operations as functions, and each at an index -/

/-- The features, one row per box, padded below. -/
def padded (x : FVec Ideal S1000x768 .f32) (z : FVec Ideal S_ .f32) : FVec Ideal S1024x768 .f32 :=
  pad S1024x768 ![0, 0] ![24, 0] ![0, 0] x z pads_S1000x768_S1024x768_0240_000 h_S_

/-- A row of a real box keeps its features. -/
theorem padded_apply (x : FVec Ideal S1x1000x768 .f32) (z : FVec Ideal S_ .f32) (i : Fin 1000) (d : Fin 768) :
    padded (shapeCast S1000x768 x shapeCasts_S1x1000x768_S1000x768) z (ix2 ⟨i.val, by omega⟩ d) = x (ix3 0 i d) := by
  unfold padded
  refine (pad_apply_of_inside _ _ _ _ _ _ _ _ (ix2 i d) (fun a => by
    match a with
    | ⟨0, _⟩ => show i.val = 0 + i.val * (0 + 1); omega
    | ⟨1, _⟩ => show d.val = 0 + d.val * (0 + 1); omega)).trans ?_
  exact shapeCast_apply _ _ _ _ (by
    rw [Shape.rowMajor_val_two, Shape.rowMajor_val_three]
    show (0 * 1000 + i.val) * 768 + d.val = i.val * 768 + d.val
    omega)

/-- The boxes with the padding boxes below. -/
def boxes (x : FVec Ideal S1x1000x4 .f32) (p : FVec Ideal S1x4 .f32) : FVec Ideal S1024x4 .f32 :=
  concatenate S1024x4 0 [⟨S1000x4, shapeCast S1000x4 x shapeCasts_S1x1000x4_S1000x4⟩,
    ⟨S24x4, shapeCast S24x4 (broadcastInDim S24x1x1x4 ![0, 1, 2, 3] bcast_S1x1x1x4_S24x1x1x4_0_1_2_3
      (shapeCast S1x1x1x4 p shapeCasts_S1x4_S1x1x1x4)) shapeCasts_S24x1x1x4_S24x4⟩] concatenates_S1000x4_S24x4_S1024x4_d0

/-- A real box is kept. -/
theorem boxes_apply (x : FVec Ideal S1x1000x4 .f32) (p : FVec Ideal S1x4 .f32) (i : Fin 1000) (d : Fin 4) :
    boxes x p (ix2 ⟨i.val, by omega⟩ d) = x (ix3 0 i d) := by
  unfold boxes
  refine (concatenate_pair_apply_left (t := S1024x4) (s₁ := S1000x4) (s₂ := S24x4) 0 _ _
    concatenates_S1000x4_S24x4_S1024x4_d0 _ rfl (ix2 i d) (fun b => by
      match b with
      | ⟨0, _⟩ => rfl
      | ⟨1, _⟩ => rfl)).trans ?_
  exact shapeCast_apply _ _ _ _ (by
    rw [Shape.rowMajor_val_two, Shape.rowMajor_val_three]
    show (0 * 1000 + i.val) * 4 + d.val = i.val * 4 + d.val
    omega)

/-- The boxes' columns. -/
def boxesT (b : FVec Ideal S1024x4 .f32) : FVec Ideal S4x1024 .f32 :=
  transpose S4x1024 [1, 0] b transposes_S1024x4_S4x1024_1_0

/-- A transposed box. -/
theorem boxesT_apply (b : FVec Ideal S1024x4 .f32) (d : Fin 4) (j : Fin 1024) : boxesT b (ix2 d j) = b (ix2 j d) :=
  transpose_apply _ _ _ _ _ (fun b => by
    match b with
    | ⟨0, _⟩ => rfl
    | ⟨1, _⟩ => rfl)

/-- The output weights as a vector. -/
def outW (w : FVec Ideal S1024x1 .f32) : FVec Ideal S1024 .f32 := shapeCast S1024 w shapeCasts_S1024x1_S1024

/-- An output weight. -/
theorem outW_apply (w : FVec Ideal S1024x1 .f32) (m : Fin 1024) : outW w (ix1 m) = w (ix2 m 0) :=
  shapeCast_apply _ _ _ _ (by
    rw [Shape.rowMajor_val_two, Shape.rowMajor_val_one]; show m.val * 1 + 0 = m.val; omega)

/-- The magnitudes of the output weights. -/
def mags (w : FVec Ideal S1024x1 .f32) : FVec Ideal S1024 .f32 := Host.absf (outW w)

/-- The magnitude of an output weight. -/
theorem mags_apply (w : FVec Ideal S1024x1 .f32) (m : Fin 1024) : mags w (ix1 m) = max (w (ix2 m 0)) (-(w (ix2 m 0))) := by
  rw [← outW_apply w m]
  rfl

/-- The first layer's weights and bias, one row per hidden unit, times the magnitude of the unit's output weight and 64. -/
def weights (W : FVec Ideal S18x1024 .f32) (b : FVec Ideal S1024 .f32) (w : FVec Ideal S1024x1 .f32) : FVec Ideal S1024x19 .fp8e4m3 :=
  Host.convertf .fp8e4m3 (mulf (concatenate S1024x19 1
    [⟨S1024x18, mulf (transpose S1024x18 [1, 0] W transposes_S18x1024_S1024x18_1_0)
      (broadcastInDim S1024x18 ![0, 1] bcast_S1024x1_S1024x18_0_1 (broadcastInDim S1024x1 ![0] bcast_S1024_S1024x1_0 (mags w)))⟩,
     ⟨S1024x1, broadcastInDim S1024x1 ![0] bcast_S1024_S1024x1_0 (mulf b (mags w))⟩] concatenates_S1024x18_S1024x1_S1024x19_d1)
    (broadcastInDim S1024x19 ![] bcast_S_S1024x19 (constant S_ .f32 0x42800000#32)))

/-- A vector as a column. -/
theorem colOf_apply (v : FVec Ideal S1024 .f32) (m : Fin 1024) :
    broadcastInDim S1024x1 ![0] bcast_S1024_S1024x1_0 v (ix2 m 0) = v (ix1 m) :=
  broadcastInDim_apply _ _ _ _ _ (fun a => by
    match a with
    | ⟨0, _⟩ => rfl)

/-- A scaled weight. -/
theorem weights_feature (W : FVec Ideal S18x1024 .f32) (b : FVec Ideal S1024 .f32) (w : FVec Ideal S1024x1 .f32)
    (m : Fin 1024) (k : Fin 18) :
    weights W b w (ix2 m k.castSucc)
      = W (ix2 k m) * max (w (ix2 m 0)) (-(w (ix2 m 0))) * Ideal.ofBits .f32 0x42800000#32 := by
  show concatenate S1024x19 1 [⟨S1024x18, _⟩, ⟨S1024x1, _⟩] concatenates_S1024x18_S1024x1_S1024x19_d1 (ix2 m k.castSucc)
    * Ideal.ofBits .f32 0x42800000#32 = _
  congr 1
  refine (concatenate_pair_apply_left (t := S1024x19) (s₁ := S1024x18) (s₂ := S1024x1) 1 _ _
    concatenates_S1024x18_S1024x1_S1024x19_d1 _ rfl (ix2 m k) (fun b => by
      match b with
      | ⟨0, _⟩ => rfl
      | ⟨1, _⟩ => rfl)).trans ?_
  rw [mulf_apply, transpose_apply _ _ _ _ (ix2 k m) (fun b => by
      match b with
      | ⟨0, _⟩ => rfl
      | ⟨1, _⟩ => rfl), broadcastInDim_apply _ _ _ _ (ix2 m 0) (fun a => by
      match a with
      | ⟨0, _⟩ => rfl
      | ⟨1, _⟩ => rfl), colOf_apply, mags_apply]

/-- A scaled bias. -/
theorem weights_bias (W : FVec Ideal S18x1024 .f32) (b : FVec Ideal S1024 .f32) (w : FVec Ideal S1024x1 .f32) (m : Fin 1024) :
    weights W b w (ix2 m (Fin.last 18))
      = b (ix1 m) * max (w (ix2 m 0)) (-(w (ix2 m 0))) * Ideal.ofBits .f32 0x42800000#32 := by
  show concatenate S1024x19 1 [⟨S1024x18, _⟩, ⟨S1024x1, _⟩] concatenates_S1024x18_S1024x1_S1024x19_d1 (ix2 m (Fin.last 18))
    * Ideal.ofBits .f32 0x42800000#32 = _
  congr 1
  refine (concatenate_pair_apply_right (t := S1024x19) (s₁ := S1024x18) (s₂ := S1024x1) 1 _ _
    concatenates_S1024x18_S1024x1_S1024x19_d1 _ rfl rfl (ix2 m 0) (fun b hb => by
      match b with
      | ⟨0, _⟩ => rfl
      | ⟨1, _⟩ => exact absurd rfl hb) rfl).trans ?_
  rw [colOf_apply, mulf_apply, mags_apply]

/-- Where an output weight is 0 or above. -/
def nonneg (w : FVec Ideal S1024x1 .f32) : IVec S1024 1 :=
  cmpf .oge (outW w) (broadcastInDim S1024 ![] bcast_S_S1024 (constant S_ .f32 0x00000000#32))

/-- The signs: one constant where the output weight is 0 or above, the other below. -/
def signs (c : IVec S1024 1) (p n : FVec Ideal S_ .f32) : FVec Ideal S1024 .f32 :=
  select c (broadcastInDim S1024 ![] bcast_S_S1024 p) (broadcastInDim S1024 ![] bcast_S_S1024 n)

/-- The signs over 64, as a column. -/
def signCol (s : FVec Ideal S1024 .f32) : FVec Ideal S1024x1 .bf16 :=
  truncf .bf16 (broadcastInDim S1024x1 ![0] bcast_S1024_S1024x1_0
    (Host.divf s (broadcastInDim S1024 ![] bcast_S_S1024 (constant S_ .f32 0x42800000#32)))) bitsLt_bf16_f32

/-- A sign over 64. -/
theorem signCol_apply (w : FVec Ideal S1024x1 .f32) (m : Fin 1024) :
    signCol (signs (nonneg w) (constant S_ .f32 0x3F800000#32) (constant S_ .f32 0xBF800000#32)) (ix2 m 0)
      = Ideal.div (Scalars.sgn (w (ix2 m 0))) (Ideal.ofBits .f32 0x42800000#32) := by
  unfold signCol
  rw [truncf_apply, colOf_apply]
  show Ideal.div (if BitVec.ofBool (decide (Ideal.ofBits .f32 0x00000000#32 ≤ outW w (ix1 m))) = 1#1
    then Ideal.ofBits .f32 0x3F800000#32 else Ideal.ofBits .f32 0xBF800000#32) (Ideal.ofBits .f32 0x42800000#32) = _
  rw [outW_apply, Consts.zero_f32]
  congr 1
  unfold Scalars.sgn
  by_cases h : (0 : EReal) ≤ w (ix2 m 0)
  · rw [if_pos h, decide_eq_true h]; rfl
  · rw [if_neg h, decide_eq_false h]; rfl

/-- The three square matrices side by side. -/
def sideBySide (A B C : FVec Ideal S768x768 .f32) : FVec Ideal S768x2304 .bf16 :=
  truncf .bf16 (concatenate S768x2304 1 [⟨S768x768, A⟩, ⟨S768x768, B⟩, ⟨S768x768, C⟩]
    concatenates_S768x768_S768x768_S768x768_S768x2304_d1) bitsLt_bf16_f32

/-- The first of the three, cut out again. -/
theorem first_cut (A B C : FVec Ideal S768x768 .f32) (d n : Fin 768) :
    extractStridedSlice S768x768 ![0, 0] (sideBySide A B C) slices_S768x2304_S768x768_0_0 (ix2 d n) = A (ix2 d n) := by
  refine (extractStridedSlice_apply _ _ _ _ (ix2 d ⟨0 + n.val, by omega⟩) (fun a => by
    match a with
    | ⟨0, _⟩ => exact (Nat.zero_add _).symm
    | ⟨1, _⟩ => rfl)).trans ?_
  unfold sideBySide
  rw [truncf_apply]
  exact concatenate_apply_piece (t := S768x2304) 1 [⟨S768x768, A⟩, ⟨S768x768, B⟩, ⟨S768x768, C⟩]
    concatenates_S768x768_S768x768_S768x768_S768x2304_d1 _ 0 (show 0 < 3 by decide) S768x768 A rfl rfl 0 rfl (ix2 d n) (fun b hb => by
      match b with
      | ⟨0, _⟩ => rfl
      | ⟨1, _⟩ => exact absurd rfl hb) rfl

/-- The second of the three, cut out again. -/
theorem second_cut (A B C : FVec Ideal S768x768 .f32) (d n : Fin 768) :
    extractStridedSlice S768x768 ![0, 768] (sideBySide A B C) slices_S768x2304_S768x768_0_768 (ix2 d n) = B (ix2 d n) := by
  refine (extractStridedSlice_apply _ _ _ _ (ix2 d ⟨768 + n.val, by omega⟩) (fun a => by
    match a with
    | ⟨0, _⟩ => exact (Nat.zero_add _).symm
    | ⟨1, _⟩ => rfl)).trans ?_
  unfold sideBySide
  rw [truncf_apply]
  exact concatenate_apply_piece (t := S768x2304) 1 [⟨S768x768, A⟩, ⟨S768x768, B⟩, ⟨S768x768, C⟩]
    concatenates_S768x768_S768x768_S768x768_S768x2304_d1 _ 1 (show 1 < 3 by decide) S768x768 B rfl rfl 768 rfl (ix2 d n) (fun b hb => by
      match b with
      | ⟨0, _⟩ => rfl
      | ⟨1, _⟩ => exact absurd rfl hb) rfl

/-- The third of the three, cut out again. -/
theorem third_cut (A B C : FVec Ideal S768x768 .f32) (d n : Fin 768) :
    extractStridedSlice S768x768 ![0, 1536] (sideBySide A B C) slices_S768x2304_S768x768_0_1536 (ix2 d n) = C (ix2 d n) := by
  refine (extractStridedSlice_apply _ _ _ _ (ix2 d ⟨1536 + n.val, by omega⟩) (fun a => by
    match a with
    | ⟨0, _⟩ => exact (Nat.zero_add _).symm
    | ⟨1, _⟩ => rfl)).trans ?_
  unfold sideBySide
  rw [truncf_apply]
  exact concatenate_apply_piece (t := S768x2304) 1 [⟨S768x768, A⟩, ⟨S768x768, B⟩, ⟨S768x768, C⟩]
    concatenates_S768x768_S768x768_S768x768_S768x2304_d1 _ 2 (show 2 < 3 by decide) S768x768 C rfl rfl 1536 rfl (ix2 d n) (fun b hb => by
      match b with
      | ⟨0, _⟩ => rfl
      | ⟨1, _⟩ => exact absurd rfl hb) rfl

/-- A vector as a row. -/
def rowVec (v : FVec Ideal S768 .f32) : FVec Ideal S1x768 .f32 := broadcastInDim S1x768 ![1] bcast_S768_S1x768_1 v

/-- An element of a row. -/
theorem rowVec_apply (v : FVec Ideal S768 .f32) (d : Fin 768) : rowVec v (ix2 0 d) = v (ix1 d) :=
  broadcastInDim_apply _ _ _ _ _ (fun a => by
    match a with
    | ⟨0, _⟩ => rfl)

/-- The output bias as a one-element array. -/
def biasCell (v : FVec Ideal S1 .f32) : FVec Ideal S1x1 .f32 := broadcastInDim S1x1 ![1] bcast_S1_S1x1_1 v

/-- The output bias. -/
theorem biasCell_apply (v : FVec Ideal S1 .f32) : biasCell v (ix2 0 0) = v (ix1 0) :=
  broadcastInDim_apply _ _ _ _ _ (fun a => by
    match a with
    | ⟨0, _⟩ => rfl)

/-- The result cut to the real boxes, with a leading axis. -/
def cut (v : FVec Ideal S1024x1024 .f32) : FVec Ideal S1x1000x1000 .f32 :=
  broadcastInDim S1x1000x1000 ![1, 2] bcast_S1000x1000_S1x1000x1000_1_2
    (extractStridedSlice S1000x1000 ![0, 0] v slices_S1024x1024_S1000x1000_0_0)

/-- An element of the cut result. -/
theorem cut_apply (v : FVec Ideal S1024x1024 .f32) (i j : Fin 1000) :
    cut v (ix3 0 i j) = v (ix2 ⟨i.val, by omega⟩ ⟨j.val, by omega⟩) := by
  unfold cut
  rw [broadcastInDim_apply _ _ _ _ (ix2 i j) (fun a => by
      match a with
      | ⟨0, _⟩ => rfl
      | ⟨1, _⟩ => rfl)]
  exact extractStridedSlice_apply _ _ _ _ _ (fun a => by
      match a with
      | ⟨0, _⟩ => exact (Nat.zero_add _).symm
      | ⟨1, _⟩ => exact (Nat.zero_add _).symm)

/-! ## What each stretch of host operations leaves, from what it finds -/

variable (V : Valuation τ sig (Elt Ideal))

/-- The first stretch drops the features' leading axis. -/
theorem after0_v0 : after hostOps0 V (Proc.devRef .tc main_v0) = shapeCast S1000x768 (α := EReal) (V (Proc.devRef .tc main_arg0)) shapeCasts_S1x1000x768_S1000x768 := by
  after_results
  first | done | rfl

/-- The second stretch pads the features. -/
theorem after1_v1 : after hostOps0_1 V (Proc.devRef .tc main_v1) = padded (V (Proc.devRef .tc main_v0)) (sitofp .f32 (V (Proc.devRef .tc main_c))) := by
  after_results
  first | done | rfl

/-- The third stretch rounds the features. -/
theorem after2_v2 : after hostOps0_2 V (Proc.devRef .tc main_v2) = (truncf .bf16 (F := Ideal) (φ := .f32) (V (Proc.devRef .tc main_v1)) bitsLt_bf16_f32 : FVec Ideal S1024x768 .bf16) := by
  after_results
  first | done | rfl

/-- The third stretch pads the boxes. -/
theorem after2_v7 : after hostOps0_2 V (Proc.devRef .tc main_v7) = boxes (V (Proc.devRef .tc main_arg1)) (V (Proc.devRef .tc main_cst)) := by
  after_results
  first | done | rfl

/-- The third stretch transposes the padded boxes. -/
theorem after2_v8 : after hostOps0_2 V (Proc.devRef .tc main_v8) = boxesT (boxes (V (Proc.devRef .tc main_arg1)) (V (Proc.devRef .tc main_cst))) := by
  after_results
  first | done | rfl

/-- The third stretch scales the first layer. -/
theorem after2_v20 : after hostOps0_2 V (Proc.devRef .tc main_v20) = weights (V (Proc.devRef .tc main_arg8)) (V (Proc.devRef .tc main_arg9)) (V (Proc.devRef .tc main_arg10)) := by
  after_results
  first | done | rfl

/-- The third stretch compares the output weights with 0. -/
theorem after2_v22 : after hostOps0_2 V (Proc.devRef .tc main_v22) = nonneg (V (Proc.devRef .tc main_arg10)) := by
  after_results
  first | done | rfl

/-- The third stretch holds the constant 1. -/
theorem after2_cst_2 : after hostOps0_2 V (Proc.devRef .tc main_cst_2) = (constant S_ .f32 0x3F800000#32 : FVec Ideal S_ .f32) := by
  after_results
  first | done | rfl

/-- The third stretch holds the constant -1. -/
theorem after2_cst_3 : after hostOps0_2 V (Proc.devRef .tc main_cst_3) = (constant S_ .f32 0xBF800000#32 : FVec Ideal S_ .f32) := by
  after_results
  first | done | rfl

/-- The fourth stretch selects the signs. -/
theorem after3_v23 : after hostOps0_3 V (Proc.devRef .tc main_v23) = signs (V (Proc.devRef .tc main_v22)) (V (Proc.devRef .tc main_cst_2)) (V (Proc.devRef .tc main_cst_3)) := by
  after_results
  first | done | rfl

/-- The fifth stretch scales the signs. -/
theorem after4_v27 : after hostOps0_4 V (Proc.devRef .tc main_v27) = signCol (V (Proc.devRef .tc main_v23)) := by
  after_results
  first | done | rfl

/-- The fifth stretch makes argument 2 a row. -/
theorem after4_v30 : after hostOps0_4 V (Proc.devRef .tc main_v30) = rowVec (V (Proc.devRef .tc main_arg2)) := by
  after_results
  first | done | rfl

/-- The fifth stretch makes argument 3 a row. -/
theorem after4_v31 : after hostOps0_4 V (Proc.devRef .tc main_v31) = rowVec (V (Proc.devRef .tc main_arg3)) := by
  after_results
  first | done | rfl

/-- The fifth stretch makes argument 5 a row. -/
theorem after4_v32 : after hostOps0_4 V (Proc.devRef .tc main_v32) = rowVec (V (Proc.devRef .tc main_arg5)) := by
  after_results
  first | done | rfl

/-- The fifth stretch cuts a matrix out at column 0. -/
theorem after4_v33 : after hostOps0_4 V (Proc.devRef .tc main_v33) = extractStridedSlice S768x768 ![0, 0] (sideBySide (V (Proc.devRef .tc main_arg4)) (V (Proc.devRef .tc main_arg6)) (V (Proc.devRef .tc main_arg7))) slices_S768x2304_S768x768_0_0 := by
  after_results
  first | done | rfl

/-- The fifth stretch cuts a matrix out at column 768. -/
theorem after4_v34 : after hostOps0_4 V (Proc.devRef .tc main_v34) = extractStridedSlice S768x768 ![0, 768] (sideBySide (V (Proc.devRef .tc main_arg4)) (V (Proc.devRef .tc main_arg6)) (V (Proc.devRef .tc main_arg7))) slices_S768x2304_S768x768_0_768 := by
  after_results
  first | done | rfl

/-- The fifth stretch cuts a matrix out at column 1536. -/
theorem after4_v35 : after hostOps0_4 V (Proc.devRef .tc main_v35) = extractStridedSlice S768x768 ![0, 1536] (sideBySide (V (Proc.devRef .tc main_arg4)) (V (Proc.devRef .tc main_arg6)) (V (Proc.devRef .tc main_arg7))) slices_S768x2304_S768x768_0_1536 := by
  after_results
  first | done | rfl

/-- Between the kernels, the output bias becomes a cell. -/
theorem after5_v37 : after hostOps1 V (Proc.devRef .tc main_v37) = biasCell (V (Proc.devRef .tc main_arg11)) := by
  after_results
  first | done | rfl

/-- Between the kernels, the row offset 0 becomes a cell. -/
theorem after5_v38 : after hostOps1 V (Proc.devRef .tc main_v38) = (shapeCast S1x1 (constantI S_ 32 0#32) shapeCasts_S_S1x1 : IVec S1x1 32) := by
  after_results
  first | done | rfl

/-- After the kernels, the result is cut to the real boxes. -/
theorem after6_v41 : after hostOps2 V (Proc.devRef .tc main_v41) = cut (V (Proc.devRef .tc main_v39)) := by
  after_results
  first | done | rfl

end Cert.KernelIdeal.Hand

end
-- ==== Proof.KernelValue.lean ====
/- What the kernel's result holds at an index, in the reference's form, from the launch memory: the host stretches hand the
   feature kernel the padded features and the model's vectors and matrices, the feature kernel hands the pair kernel the
   queries and keys, and the pair kernel's entry is one entry of the specification where the output weights are finite. -/
module

public import proofs.«01_k».proof.Proof.Arrays
public import proofs.«01_k».proof.Proof.HostIn

@[expose] public section

set_option maxRecDepth 16384

noncomputable section

namespace Cert.KernelIdeal.Hand

open Idealize.ShloMosaic Idealize.ShloMosaic.ValueIdx Idealize.ShloMosaic.TcCoe Idealize.ShloMosaic.StableHlo
open Cert.KernelIdeal Cert.KernelIdeal.Gen

/-- An entry of the pair kernel's result in the reference's form: the scaled first layer and the signs undo each other, and
    the diagonal's penalty is subtracted. -/
theorem pairOf_eq (q k : FVec Ideal S1024x768 .bf16) (W : FVec Ideal S1024x19 .fp8e4m3) (S : FVec Ideal S1024x1 .bf16)
    (b : FVec Ideal S1024x4 .f32) (bT : FVec Ideal S4x1024 .f32) (b2 : FVec Ideal S1x1 .f32) (r j : Fin 1024)
    (Q K : Fin 768 → EReal) (W1 : Fin 18 → Fin 1024 → EReal) (b1 : Fin 1024 → EReal) (w : Fin 1024 → ℝ)
    (bi bj : Spec.Box) (c2 : EReal)
    (hq : ∀ n, q (ix2 r n) = Q n) (hk : ∀ n, k (ix2 j n) = K n)
    (hW : ∀ m (l : Fin 18), W (ix2 m l.castSucc)
      = W1 l m * max (w m : EReal) (-(w m : EReal)) * Ideal.ofBits .f32 0x42800000#32)
    (hB : ∀ m, W (ix2 m (Fin.last 18)) = b1 m * max (w m : EReal) (-(w m : EReal)) * Ideal.ofBits .f32 0x42800000#32)
    (hS : ∀ m, S (ix2 m 0) = Ideal.div (Scalars.sgn (w m : EReal)) (Ideal.ofBits .f32 0x42800000#32))
    (hb : ∀ d, b (ix2 r d) = bi d) (hbT : ∀ d, bT (ix2 d j) = bj d) (h2 : b2 (ix2 0 0) = c2) :
    pairOf q k W S b bT b2 r j
      = Spec.entry Q K (Spec.net W1 b1 (fun m => (w m : EReal)) (Spec.feats bi bj)) c2 (r.val = j.val) := by
  unfold pairOf
  rw [Scalars.last_sum]
  unfold Spec.entry Spec.net
  simp only [hq, hk, hW, hB, hS, hb, hbT, h2]
  refine congrArg (fun z : EReal => (_ + (z + c2)) - _) (Finset.sum_congr rfl fun m _ => ?_)
  exact Scalars.unit_eq (w m) (Spec.feats bi bj) (fun l => W1 l m) (b1 m)

variable (m : (ℓ : Loc nD τ sig) → Buf (Elt Ideal) ℓ) (ρ : Dev nD → PrngReg) (c : Dev nD)

/-! ## The arguments -/

/-- The features at launch. -/
abbrev arg0 : FVec Ideal S1x1000x768 .f32 := m ((c : Thread nD τ).loc main_arg0)
/-- The boxes at launch. -/
abbrev arg1 : FVec Ideal S1x1000x4 .f32 := m ((c : Thread nD τ).loc main_arg1)
/-- The scale at launch. -/
abbrev arg2 : FVec Ideal S768 .f32 := m ((c : Thread nD τ).loc main_arg2)
/-- The shift at launch. -/
abbrev arg3 : FVec Ideal S768 .f32 := m ((c : Thread nD τ).loc main_arg3)
/-- The projection's matrix at launch. -/
abbrev arg4 : FVec Ideal S768x768 .f32 := m ((c : Thread nD τ).loc main_arg4)
/-- The projection's bias at launch. -/
abbrev arg5 : FVec Ideal S768 .f32 := m ((c : Thread nD τ).loc main_arg5)
/-- The queries' matrix at launch. -/
abbrev arg6 : FVec Ideal S768x768 .f32 := m ((c : Thread nD τ).loc main_arg6)
/-- The keys' matrix at launch. -/
abbrev arg7 : FVec Ideal S768x768 .f32 := m ((c : Thread nD τ).loc main_arg7)
/-- The network's first matrix at launch. -/
abbrev arg8 : FVec Ideal S18x1024 .f32 := m ((c : Thread nD τ).loc main_arg8)
/-- The network's first bias at launch. -/
abbrev arg9 : FVec Ideal S1024 .f32 := m ((c : Thread nD τ).loc main_arg9)
/-- The output weights at launch. -/
abbrev arg10 : FVec Ideal S1024x1 .f32 := m ((c : Thread nD τ).loc main_arg10)
/-- The output bias at launch. -/
abbrev arg11 : FVec Ideal S1 .f32 := m ((c : Thread nD τ).loc main_arg11)

/-! ## What the feature kernel finds -/

/-- The feature kernel's features: a real box's row. -/
theorem in0_features (i : Fin 1000) (d : Fin 768) :
    V5 m ρ c main_v2 (ix2 ⟨i.val, by omega⟩ d) = arg0 m c (ix3 0 i d) := by
  have e : V5 m ρ c main_v2 = (truncf .bf16 (F := Ideal) (φ := .f32) (padded (shapeCast S1000x768 (α := EReal) (arg0 m c)
      shapeCasts_S1x1000x768_S1000x768) (sitofp .f32 (W1 m ρ c (Proc.devRef .tc main_c)))) bitsLt_bf16_f32 : FVec Ideal S1024x768 .bf16) := by
    refine (W5_of m ρ c main_v2 (by decide)).trans ((W4_of m ρ c main_v2 (by decide)).trans ((after2_v2 (W2 m ρ c)).trans ?_))
    exact congrArg (fun x => (truncf .bf16 (F := Ideal) (φ := .f32) x bitsLt_bf16_f32 : FVec Ideal S1024x768 .bf16))
      ((after1_v1 (W1 m ρ c)).trans (congrArg (fun x => padded x _) (after0_v0 (W0 m ρ c))))
  rw [e]
  exact padded_apply (arg0 m c) _ i d

/-- The feature kernel's scale. -/
theorem in0_scale (d : Fin 768) : V5 m ρ c main_v30 (ix2 0 d) = arg2 m c (ix1 d) := by
  have e : V5 m ρ c main_v30 = rowVec (arg2 m c) :=
    (after4_v30 (W4 m ρ c)).trans (congrArg rowVec (W4_args m ρ c main_arg2 (by decide)))
  rw [e]; exact rowVec_apply _ d

/-- The feature kernel's shift. -/
theorem in0_shift (d : Fin 768) : V5 m ρ c main_v31 (ix2 0 d) = arg3 m c (ix1 d) := by
  have e : V5 m ρ c main_v31 = rowVec (arg3 m c) :=
    (after4_v31 (W4 m ρ c)).trans (congrArg rowVec (W4_args m ρ c main_arg3 (by decide)))
  rw [e]; exact rowVec_apply _ d

/-- The feature kernel's projection bias. -/
theorem in0_bias (d : Fin 768) : V5 m ρ c main_v32 (ix2 0 d) = arg5 m c (ix1 d) := by
  have e : V5 m ρ c main_v32 = rowVec (arg5 m c) :=
    (after4_v32 (W4 m ρ c)).trans (congrArg rowVec (W4_args m ρ c main_arg5 (by decide)))
  rw [e]; exact rowVec_apply _ d

/-- The three matrices side by side, from the launch memory. -/
theorem matrices : sideBySide (W4 m ρ c (Proc.devRef .tc main_arg4)) (W4 m ρ c (Proc.devRef .tc main_arg6)) (W4 m ρ c (Proc.devRef .tc main_arg7))
    = sideBySide (arg4 m c) (arg6 m c) (arg7 m c) := by
  have e4 : W4 m ρ c (Proc.devRef .tc main_arg4) = arg4 m c := W4_args m ρ c main_arg4 (by decide)
  have e6 : W4 m ρ c (Proc.devRef .tc main_arg6) = arg6 m c := W4_args m ρ c main_arg6 (by decide)
  have e7 : W4 m ρ c (Proc.devRef .tc main_arg7) = arg7 m c := W4_args m ρ c main_arg7 (by decide)
  rw [e4, e6, e7]

/-- The feature kernel's projection matrix. -/
theorem in0_proj (d n : Fin 768) : V5 m ρ c main_v33 (ix2 d n) = arg4 m c (ix2 d n) := by
  have e : V5 m ρ c main_v33 = extractStridedSlice S768x768 ![0, 0] (sideBySide (arg4 m c) (arg6 m c) (arg7 m c)) slices_S768x2304_S768x768_0_0 :=
    (after4_v33 (W4 m ρ c)).trans (congrArg (fun s => extractStridedSlice S768x768 ![0, 0] s slices_S768x2304_S768x768_0_0) (matrices m ρ c))
  rw [e]; exact first_cut _ _ _ d n

/-- The feature kernel's query matrix. -/
theorem in0_query (d n : Fin 768) : V5 m ρ c main_v34 (ix2 d n) = arg6 m c (ix2 d n) := by
  have e : V5 m ρ c main_v34 = extractStridedSlice S768x768 ![0, 768] (sideBySide (arg4 m c) (arg6 m c) (arg7 m c)) slices_S768x2304_S768x768_0_768 :=
    (after4_v34 (W4 m ρ c)).trans (congrArg (fun s => extractStridedSlice S768x768 ![0, 768] s slices_S768x2304_S768x768_0_768) (matrices m ρ c))
  rw [e]; exact second_cut _ _ _ d n

/-- The feature kernel's key matrix. -/
theorem in0_key (d n : Fin 768) : V5 m ρ c main_v35 (ix2 d n) = arg7 m c (ix2 d n) := by
  have e : V5 m ρ c main_v35 = extractStridedSlice S768x768 ![0, 1536] (sideBySide (arg4 m c) (arg6 m c) (arg7 m c)) slices_S768x2304_S768x768_0_1536 :=
    (after4_v35 (W4 m ρ c)).trans (congrArg (fun s => extractStridedSlice S768x768 ![0, 1536] s slices_S768x2304_S768x768_0_1536) (matrices m ρ c))
  rw [e]; exact third_cut _ _ _ d n

/-! ## What the pair kernel finds -/

/-- A real box's projected row. -/
def projected (i : Fin 1000) : Fin 768 → EReal :=
  Spec.proj (fun d => arg0 m c (ix3 0 i d)) (fun d => arg2 m c (ix1 d)) (fun d => arg3 m c (ix1 d))
    (fun d n => arg4 m c (ix2 d n)) (fun d => arg5 m c (ix1 d))

/-- A projected row times a matrix depends on the entries only. -/
theorem lin_congr {x x' g g' s s' b b' : Fin 768 → EReal} {W W' U U' : Fin 768 → Fin 768 → EReal} (hx : ∀ d, x d = x' d)
    (hg : ∀ d, g d = g' d) (hs : ∀ d, s d = s' d) (hW : ∀ d n, W d n = W' d n) (hb : ∀ d, b d = b' d)
    (hU : ∀ d n, U d n = U' d n) (n : Fin 768) :
    Spec.lin (Spec.proj x g s W b) U n = Spec.lin (Spec.proj x' g' s' W' b') U' n := by
  obtain rfl : x = x' := funext hx
  obtain rfl : g = g' := funext hg
  obtain rfl : s = s' := funext hs
  obtain rfl : b = b' := funext hb
  obtain rfl : W = W' := funext fun d => funext (hW d)
  obtain rfl : U = U' := funext fun d => funext (hU d)
  rfl

/-- The pair kernel's queries: a real box's row. -/
theorem in1_query (i : Fin 1000) (n : Fin 768) :
    V7 m ρ c main_v36_0 (ix2 ⟨i.val, by omega⟩ n) = Spec.lin (projected m c i) (fun d n => arg6 m c (ix2 d n)) n := by
  have e : V7 m ρ c main_v36_0 = (dat0 (V5 m ρ) c).arrAt 7 cfg0.N :=
    (W7_of m ρ c main_v36_0 (by decide)).trans (W6_arr m ρ c 7)
  rw [e]
  refine (features_7 (V5 m ρ) c ⟨i.val, by omega⟩ n).trans ?_
  exact lin_congr (in0_features m ρ c i) (in0_scale m ρ c) (in0_shift m ρ c) (in0_proj m ρ c) (in0_bias m ρ c) (in0_query m ρ c) n

/-- The pair kernel's keys: a real box's row. -/
theorem in1_key (i : Fin 1000) (n : Fin 768) :
    V7 m ρ c main_v36_1 (ix2 ⟨i.val, by omega⟩ n) = Spec.lin (projected m c i) (fun d n => arg7 m c (ix2 d n)) n := by
  have e : V7 m ρ c main_v36_1 = (dat0 (V5 m ρ) c).arrAt 8 cfg0.N :=
    (W7_of m ρ c main_v36_1 (by decide)).trans (W6_arr m ρ c 8)
  rw [e]
  refine (features_8 (V5 m ρ) c ⟨i.val, by omega⟩ n).trans ?_
  exact lin_congr (in0_features m ρ c i) (in0_scale m ρ c) (in0_shift m ρ c) (in0_proj m ρ c) (in0_bias m ρ c) (in0_key m ρ c) n

/-- An array of the third stretch that nothing later writes reaches the pair kernel. -/
theorem kept (r : Ref sig .tc) (h7 : r ∉ hostOps1_W) (h6 : ∀ w, Pipeline.arrRef spec0 w ≠ r) (h5 : r ∉ hostOps0_4_W)
    (h4 : r ∉ hostOps0_3_W) : V7 m ρ c r = W3 m ρ c (Proc.devRef .tc r) :=
  (W7_of m ρ c r h7).trans ((W6_of_ne m ρ c r h6).trans ((W5_of m ρ c r h5).trans (W4_of m ρ c r h4)))

/-- The pair kernel's boxes. -/
theorem in1_boxes (i : Fin 1000) (d : Fin 4) :
    V7 m ρ c main_v7 (ix2 ⟨i.val, by omega⟩ d) = arg1 m c (ix3 0 i d) := by
  have e : V7 m ρ c main_v7 = boxes (arg1 m c) (W2 m ρ c (Proc.devRef .tc main_cst)) :=
    (kept m ρ c main_v7 (by decide) (by decide) (by decide) (by decide)).trans ((after2_v7 (W2 m ρ c)).trans
      (congrArg (fun x => boxes x _) (W2_args m ρ c main_arg1 (by decide))))
  rw [e]; exact boxes_apply _ _ i d

/-- The pair kernel's transposed boxes. -/
theorem in1_boxesT (j : Fin 1000) (d : Fin 4) :
    V7 m ρ c main_v8 (ix2 d ⟨j.val, by omega⟩) = arg1 m c (ix3 0 j d) := by
  have e : V7 m ρ c main_v8 = boxesT (boxes (arg1 m c) (W2 m ρ c (Proc.devRef .tc main_cst))) :=
    (kept m ρ c main_v8 (by decide) (by decide) (by decide) (by decide)).trans ((after2_v8 (W2 m ρ c)).trans
      (congrArg (fun x => boxesT (boxes x _)) (W2_args m ρ c main_arg1 (by decide))))
  rw [e]; exact (boxesT_apply _ d _).trans (boxes_apply _ _ j d)

/-- The pair kernel's first layer. -/
theorem in1_weights : V7 m ρ c main_v20 = weights (arg8 m c) (arg9 m c) (arg10 m c) := by
  refine (kept m ρ c main_v20 (by decide) (by decide) (by decide) (by decide)).trans ((after2_v20 (W2 m ρ c)).trans ?_)
  have e8 : W2 m ρ c (Proc.devRef .tc main_arg8) = arg8 m c := W2_args m ρ c main_arg8 (by decide)
  have e9 : W2 m ρ c (Proc.devRef .tc main_arg9) = arg9 m c := W2_args m ρ c main_arg9 (by decide)
  have e10 : W2 m ρ c (Proc.devRef .tc main_arg10) = arg10 m c := W2_args m ρ c main_arg10 (by decide)
  rw [e8, e9, e10]

/-- The pair kernel's signs. -/
theorem in1_signs : V7 m ρ c main_v27
    = signCol (signs (nonneg (arg10 m c)) (constant S_ .f32 0x3F800000#32) (constant S_ .f32 0xBF800000#32)) := by
  refine (W7_of m ρ c main_v27 (by decide)).trans ((W6_of_ne m ρ c main_v27 (by decide)).trans ((after4_v27 (W4 m ρ c)).trans ?_))
  refine congrArg signCol ((after3_v23 (W3 m ρ c)).trans ?_)
  have e22 : W3 m ρ c (Proc.devRef .tc main_v22) = nonneg (arg10 m c) :=
    (after2_v22 (W2 m ρ c)).trans (congrArg nonneg (W2_args m ρ c main_arg10 (by decide)))
  have ep : W3 m ρ c (Proc.devRef .tc main_cst_2) = (constant S_ .f32 0x3F800000#32 : FVec Ideal S_ .f32) := after2_cst_2 (W2 m ρ c)
  have en : W3 m ρ c (Proc.devRef .tc main_cst_3) = (constant S_ .f32 0xBF800000#32 : FVec Ideal S_ .f32) := after2_cst_3 (W2 m ρ c)
  rw [e22, ep, en]

/-- The pair kernel's output bias. -/
theorem in1_bias : V7 m ρ c main_v37 (ix2 0 0) = arg11 m c (ix1 0) := by
  have e : V7 m ρ c main_v37 = biasCell (arg11 m c) :=
    (after5_v37 (W6 m ρ c)).trans (congrArg biasCell (W6_args m ρ c main_arg11 (by decide)))
  rw [e]; exact biasCell_apply _

/-- The pair kernel's row offset is 0. -/
theorem in1_offset : V7 m ρ c main_v38 (ix2 0 0) = 0#32 := by
  have e : V7 m ρ c main_v38 = (shapeCast S1x1 (constantI S_ 32 0#32) shapeCasts_S_S1x1 : IVec S1x1 32) := after5_v38 (W6 m ρ c)
  rw [e]; rfl

/-! ## The result -/

/-- One entry of the kernel's result, where the output weights are the reals `w`. -/
theorem result_apply (w : Fin 1024 → ℝ) (hw : ∀ k, arg10 m c (ix2 k 0) = (w k : EReal)) (i j : Fin 1000) :
    W9 m ρ c (Proc.devRef .tc main_v41) (ix3 0 i j)
      = Spec.entry (Spec.lin (projected m c i) (fun d n => arg6 m c (ix2 d n)))
          (Spec.lin (projected m c j) (fun d n => arg7 m c (ix2 d n)))
          (Spec.net (fun l k => arg8 m c (ix2 l k)) (fun k => arg9 m c (ix1 k)) (fun k => arg10 m c (ix2 k 0))
            (Spec.feats (fun d => arg1 m c (ix3 0 i d)) (fun d => arg1 m c (ix3 0 j d))))
          (arg11 m c (ix1 0)) (i.val = j.val) := by
  have e : W9 m ρ c (Proc.devRef .tc main_v41) = cut ((dat1 (V7 m ρ) c).arrAt 8 cfg1.N) :=
    (after6_v41 (W8 m ρ c)).trans (congrArg cut (W8_arr m ρ c 8))
  rw [e]
  refine (cut_apply _ i j).trans ((pairs_8 (V7 m ρ) c (in1_offset m ρ c) _ _).trans ?_)
  have e10 : (fun k => arg10 m c (ix2 k 0)) = fun k => (w k : EReal) := funext hw
  rw [e10]
  refine pairOf_eq _ _ _ _ _ _ _ _ _ _ _ _ _ w _ _ _ (in1_query m ρ c i) (in1_key m ρ c j) (fun k l => ?_) (fun k => ?_) (fun k => ?_)
    (in1_boxes m ρ c i) (in1_boxesT m ρ c j) (in1_bias m ρ c)
  · rw [in1_weights, ← hw k]; exact weights_feature _ _ _ k l
  · rw [in1_weights, ← hw k]; exact weights_bias _ _ _ k
  · rw [in1_signs, ← hw k]; exact signCol_apply _ k

end Cert.KernelIdeal.Hand

end
-- ==== Proof.RefFeatures.lean ====
/- The reference's eighteen features of a pair of boxes, read at the pair. -/
module

public import proofs.«01_k».proof.Proof.Gen.ReferenceIdeal.Read
public import proofs.«01_k».proof.Proof.Spec
public import Idealize.ShloMosaic.Lib.ValueIdx
public import Idealize.ShloMosaic.Lib.Pipeline.Value
public import Idealize.ShloMosaic.PureOps.Ideal.Laws

@[expose] public section

set_option maxRecDepth 16384

noncomputable section

namespace Cert.ReferenceIdeal.Hand

open Idealize.ShloMosaic Idealize.ShloMosaic.ValueIdx Cert.ReferenceIdeal Cert.ReferenceIdeal.Gen Cert.ReferenceIdeal.Read

/-- The boxes as the reference takes them. -/
abbrev Boxes := (⟨S1x1000x4, .f32⟩ : BufTy).Contents (Elt Ideal)

/-- Box `i` of the argument. -/
def boxAt (x1 : Boxes) (i : Fin 1000) : Spec.Box := fun d => x1 (ix3 (0 : Fin 1) i d)

/-- The left edges, read at a box. -/
theorem corner_0 (x1 : Boxes) (p : S1x1000.Idx) :
    val_main_v40 (F := Ideal) x1 p = boxAt x1 (p 1) (0 : Fin 4) := by
  rw [val_main_v40_apply, val_main_v39_apply]
  have h0 : (p 0).val < 1 := (p 0).isLt
  have h1 : (p 1).val < 1000 := (p 1).isLt
  refine congrArg x1 (funext fun a => Fin.ext ?_)
  match a with
  | ⟨0, _⟩ => rfl
  | ⟨1, _⟩ => show ((p 0).val * 1000 + (p 1).val) / 1 % 1000 = (p 1).val; omega
  | ⟨2, _⟩ => rfl

/-- The top edges, read at a box. -/
theorem corner_1 (x1 : Boxes) (p : S1x1000.Idx) :
    val_main_v42 (F := Ideal) x1 p = boxAt x1 (p 1) (1 : Fin 4) := by
  rw [val_main_v42_apply, val_main_v41_apply]
  have h0 : (p 0).val < 1 := (p 0).isLt
  have h1 : (p 1).val < 1000 := (p 1).isLt
  refine congrArg x1 (funext fun a => Fin.ext ?_)
  match a with
  | ⟨0, _⟩ => rfl
  | ⟨1, _⟩ => show ((p 0).val * 1000 + (p 1).val) / 1 % 1000 = (p 1).val; omega
  | ⟨2, _⟩ => rfl

/-- The right edges, read at a box. -/
theorem corner_2 (x1 : Boxes) (p : S1x1000.Idx) :
    val_main_v44 (F := Ideal) x1 p = boxAt x1 (p 1) (2 : Fin 4) := by
  rw [val_main_v44_apply, val_main_v43_apply]
  have h0 : (p 0).val < 1 := (p 0).isLt
  have h1 : (p 1).val < 1000 := (p 1).isLt
  refine congrArg x1 (funext fun a => Fin.ext ?_)
  match a with
  | ⟨0, _⟩ => rfl
  | ⟨1, _⟩ => show ((p 0).val * 1000 + (p 1).val) / 1 % 1000 = (p 1).val; omega
  | ⟨2, _⟩ => rfl

/-- The bottom edges, read at a box. -/
theorem corner_3 (x1 : Boxes) (p : S1x1000.Idx) :
    val_main_v46 (F := Ideal) x1 p = boxAt x1 (p 1) (3 : Fin 4) := by
  rw [val_main_v46_apply, val_main_v45_apply]
  have h0 : (p 0).val < 1 := (p 0).isLt
  have h1 : (p 1).val < 1000 := (p 1).isLt
  refine congrArg x1 (funext fun a => Fin.ext ?_)
  match a with
  | ⟨0, _⟩ => rfl
  | ⟨1, _⟩ => show ((p 0).val * 1000 + (p 1).val) / 1 % 1000 = (p 1).val; omega
  | ⟨2, _⟩ => rfl

/-- Six arrays with a last axis of length 1, side by side along it. -/
theorem stacked_apply (p0 p1 p2 p3 p4 p5 : S1x1000x1000x1.Idx → EReal) (i j : Fin 1000) (k : Fin 6) :
    concatenate S1x1000x1000x6 3 [⟨S1x1000x1000x1, p0⟩, ⟨S1x1000x1000x1, p1⟩, ⟨S1x1000x1000x1, p2⟩, ⟨S1x1000x1000x1, p3⟩, ⟨S1x1000x1000x1, p4⟩, ⟨S1x1000x1000x1, p5⟩] concatenates_S1x1000x1000x1_S1x1000x1000x1_S1x1000x1000x1_S1x1000x1000x1_S1x1000x1000x1_S1x1000x1000x1_S1x1000x1000x6_d3 (ix4 (0 : Fin 1) i j k)
      = (![p0, p1, p2, p3, p4, p5] k) (ix4 (0 : Fin 1) i j (0 : Fin 1)) := by
  refine concatenate_apply_piece (t := S1x1000x1000x6) 3 [⟨S1x1000x1000x1, p0⟩, ⟨S1x1000x1000x1, p1⟩, ⟨S1x1000x1000x1, p2⟩, ⟨S1x1000x1000x1, p3⟩, ⟨S1x1000x1000x1, p4⟩, ⟨S1x1000x1000x1, p5⟩]
    concatenates_S1x1000x1000x1_S1x1000x1000x1_S1x1000x1000x1_S1x1000x1000x1_S1x1000x1000x1_S1x1000x1000x1_S1x1000x1000x6_d3 (ix4 (0 : Fin 1) i j k) k.val k.isLt S1x1000x1000x1
    (![p0, p1, p2, p3, p4, p5] k) ?_ rfl k.val ?_ (ix4 (0 : Fin 1) i j (0 : Fin 1)) (fun b hb => by
      match b with
      | ⟨0, _⟩ => rfl
      | ⟨1, _⟩ => rfl
      | ⟨2, _⟩ => rfl
      | ⟨3, _⟩ => exact absurd rfl hb) rfl
  all_goals
    match k with
    | ⟨0, _⟩ => rfl
    | ⟨1, _⟩ => rfl
    | ⟨2, _⟩ => rfl
    | ⟨3, _⟩ => rfl
    | ⟨4, _⟩ => rfl
    | ⟨5, _⟩ => rfl

/-- The horizontal shift of the second box against the first. -/
theorem piece_129 (x1 : Boxes) (i j : Fin 1000) :
    val_main_v129 (F := Ideal) x1 (ix4 (0 : Fin 1) i j (0 : Fin 1)) = Spec.delta (boxAt x1 i) (boxAt x1 j) (boxAt x1 i) 0 := by
  simp only [val_main_v129_apply, val_main_v101_apply, val_main_v99_apply, val_main_v97_apply, val_main_v75_apply, val_main_v73_apply, val_main_v51_apply, val_main_v53_apply, val_main_v74_apply, val_main_cst_8_apply, val_main_v98_apply, val_main_v69_apply, val_main_v67_apply, val_main_v47_apply, val_main_v49_apply, val_main_v68_apply, val_main_cst_6_apply, val_main_v100_apply, val_main_v93_apply, val_main_v91_apply, val_main_v92_apply, val_main_cst_14_apply, corner_0, corner_1, corner_2, corner_3]
  rfl

/-- The vertical shift of the second box against the first. -/
theorem piece_130 (x1 : Boxes) (i j : Fin 1000) :
    val_main_v130 (F := Ideal) x1 (ix4 (0 : Fin 1) i j (0 : Fin 1)) = Spec.delta (boxAt x1 i) (boxAt x1 j) (boxAt x1 i) 1 := by
  simp only [val_main_v130_apply, val_main_v106_apply, val_main_v104_apply, val_main_v102_apply, val_main_v78_apply, val_main_v76_apply, val_main_v52_apply, val_main_v54_apply, val_main_v77_apply, val_main_cst_9_apply, val_main_v103_apply, val_main_v72_apply, val_main_v70_apply, val_main_v48_apply, val_main_v50_apply, val_main_v71_apply, val_main_cst_7_apply, val_main_v105_apply, val_main_v96_apply, val_main_v94_apply, val_main_v95_apply, val_main_cst_15_apply, corner_0, corner_1, corner_2, corner_3]
  rfl

/-- The growth in width of the second box against the first. -/
theorem piece_131 (x1 : Boxes) (i j : Fin 1000) :
    val_main_v131 (F := Ideal) x1 (ix4 (0 : Fin 1) i j (0 : Fin 1)) = Spec.delta (boxAt x1 i) (boxAt x1 j) (boxAt x1 i) 2 := by
  simp only [val_main_v131_apply, val_main_v111_apply, val_main_v109_apply, val_main_v107_apply, val_main_v87_apply, val_main_v85_apply, val_main_v53_apply, val_main_v51_apply, val_main_v86_apply, val_main_cst_12_apply, val_main_v108_apply, val_main_v81_apply, val_main_v79_apply, val_main_v49_apply, val_main_v47_apply, val_main_v80_apply, val_main_cst_10_apply, val_main_v110_apply, val_main_v93_apply, val_main_v91_apply, val_main_v92_apply, val_main_cst_14_apply, corner_0, corner_1, corner_2, corner_3]
  rfl

/-- The growth in height of the second box against the first. -/
theorem piece_132 (x1 : Boxes) (i j : Fin 1000) :
    val_main_v132 (F := Ideal) x1 (ix4 (0 : Fin 1) i j (0 : Fin 1)) = Spec.delta (boxAt x1 i) (boxAt x1 j) (boxAt x1 i) 3 := by
  simp only [val_main_v132_apply, val_main_v116_apply, val_main_v114_apply, val_main_v112_apply, val_main_v90_apply, val_main_v88_apply, val_main_v54_apply, val_main_v52_apply, val_main_v89_apply, val_main_cst_13_apply, val_main_v113_apply, val_main_v84_apply, val_main_v82_apply, val_main_v50_apply, val_main_v48_apply, val_main_v83_apply, val_main_cst_11_apply, val_main_v115_apply, val_main_v96_apply, val_main_v94_apply, val_main_v95_apply, val_main_cst_15_apply, corner_0, corner_1, corner_2, corner_3]
  rfl

/-- The log-ratio of widths of the second box against the first. -/
theorem piece_133 (x1 : Boxes) (i j : Fin 1000) :
    val_main_v133 (F := Ideal) x1 (ix4 (0 : Fin 1) i j (0 : Fin 1)) = Spec.delta (boxAt x1 i) (boxAt x1 j) (boxAt x1 i) 4 := by
  simp only [val_main_v133_apply, val_main_v122_apply, val_main_v121_apply, val_main_v119_apply, val_main_v117_apply, val_main_v87_apply, val_main_v85_apply, val_main_v53_apply, val_main_v51_apply, val_main_v86_apply, val_main_cst_12_apply, val_main_v118_apply, val_main_v81_apply, val_main_v79_apply, val_main_v49_apply, val_main_v47_apply, val_main_v80_apply, val_main_cst_10_apply, val_main_v120_apply, val_main_cst_16_apply, corner_0, corner_1, corner_2, corner_3]
  rfl

/-- The log-ratio of heights of the second box against the first. -/
theorem piece_134 (x1 : Boxes) (i j : Fin 1000) :
    val_main_v134 (F := Ideal) x1 (ix4 (0 : Fin 1) i j (0 : Fin 1)) = Spec.delta (boxAt x1 i) (boxAt x1 j) (boxAt x1 i) 5 := by
  simp only [val_main_v134_apply, val_main_v128_apply, val_main_v127_apply, val_main_v125_apply, val_main_v123_apply, val_main_v90_apply, val_main_v88_apply, val_main_v54_apply, val_main_v52_apply, val_main_v89_apply, val_main_cst_13_apply, val_main_v124_apply, val_main_v84_apply, val_main_v82_apply, val_main_v50_apply, val_main_v48_apply, val_main_v83_apply, val_main_cst_11_apply, val_main_v126_apply, val_main_cst_17_apply, corner_0, corner_1, corner_2, corner_3]
  rfl

/-- The six numbers of the second box against the first, side by side. -/
theorem stack_135 (x1 : Boxes) (i j : Fin 1000) (k : Fin 6) :
    val_main_v135 (F := Ideal) x1 (ix4 (0 : Fin 1) i j k) = Spec.delta (boxAt x1 i) (boxAt x1 j) (boxAt x1 i) k := by
  refine (stacked_apply (val_main_v129 (F := Ideal) x1) (val_main_v130 (F := Ideal) x1) (val_main_v131 (F := Ideal) x1) (val_main_v132 (F := Ideal) x1) (val_main_v133 (F := Ideal) x1) (val_main_v134 (F := Ideal) x1) i j k).trans ?_
  match k with
  | ⟨0, _⟩ => exact piece_129 x1 i j
  | ⟨1, _⟩ => exact piece_130 x1 i j
  | ⟨2, _⟩ => exact piece_131 x1 i j
  | ⟨3, _⟩ => exact piece_132 x1 i j
  | ⟨4, _⟩ => exact piece_133 x1 i j
  | ⟨5, _⟩ => exact piece_134 x1 i j

/-- The horizontal shift of the union against the first box. -/
theorem piece_192 (x1 : Boxes) (i j : Fin 1000) :
    val_main_v192 (F := Ideal) x1 (ix4 (0 : Fin 1) i j (0 : Fin 1)) = Spec.delta (boxAt x1 i) (Spec.union (boxAt x1 i) (boxAt x1 j)) (boxAt x1 i) 0 := by
  simp only [val_main_v192_apply, val_main_v169_apply, val_main_v167_apply, val_main_v144_apply, val_main_v142_apply, val_main_v57_apply, val_main_v55_apply, val_main_v47_apply, val_main_v56_apply, val_main_v51_apply, val_main_v63_apply, val_main_v61_apply, val_main_v49_apply, val_main_v62_apply, val_main_v53_apply, val_main_v143_apply, val_main_cst_20_apply, val_main_v166_apply, val_main_v138_apply, val_main_v136_apply, val_main_v137_apply, val_main_cst_18_apply, val_main_v168_apply, val_main_v162_apply, val_main_v160_apply, val_main_v161_apply, val_main_cst_26_apply, corner_0, corner_1, corner_2, corner_3]
  rfl

/-- The vertical shift of the union against the first box. -/
theorem piece_193 (x1 : Boxes) (i j : Fin 1000) :
    val_main_v193 (F := Ideal) x1 (ix4 (0 : Fin 1) i j (0 : Fin 1)) = Spec.delta (boxAt x1 i) (Spec.union (boxAt x1 i) (boxAt x1 j)) (boxAt x1 i) 1 := by
  simp only [val_main_v193_apply, val_main_v173_apply, val_main_v171_apply, val_main_v147_apply, val_main_v145_apply, val_main_v60_apply, val_main_v58_apply, val_main_v48_apply, val_main_v59_apply, val_main_v52_apply, val_main_v66_apply, val_main_v64_apply, val_main_v50_apply, val_main_v65_apply, val_main_v54_apply, val_main_v146_apply, val_main_cst_21_apply, val_main_v170_apply, val_main_v141_apply, val_main_v139_apply, val_main_v140_apply, val_main_cst_19_apply, val_main_v172_apply, val_main_v165_apply, val_main_v163_apply, val_main_v164_apply, val_main_cst_27_apply, corner_0, corner_1, corner_2, corner_3]
  rfl

/-- The growth in width of the union against the first box. -/
theorem piece_194 (x1 : Boxes) (i j : Fin 1000) :
    val_main_v194 (F := Ideal) x1 (ix4 (0 : Fin 1) i j (0 : Fin 1)) = Spec.delta (boxAt x1 i) (Spec.union (boxAt x1 i) (boxAt x1 j)) (boxAt x1 i) 2 := by
  simp only [val_main_v194_apply, val_main_v177_apply, val_main_v175_apply, val_main_v156_apply, val_main_v154_apply, val_main_v63_apply, val_main_v61_apply, val_main_v49_apply, val_main_v62_apply, val_main_v53_apply, val_main_v57_apply, val_main_v55_apply, val_main_v47_apply, val_main_v56_apply, val_main_v51_apply, val_main_v155_apply, val_main_cst_24_apply, val_main_v174_apply, val_main_v150_apply, val_main_v148_apply, val_main_v149_apply, val_main_cst_22_apply, val_main_v176_apply, val_main_v162_apply, val_main_v160_apply, val_main_v161_apply, val_main_cst_26_apply, corner_0, corner_1, corner_2, corner_3]
  rfl

/-- The growth in height of the union against the first box. -/
theorem piece_195 (x1 : Boxes) (i j : Fin 1000) :
    val_main_v195 (F := Ideal) x1 (ix4 (0 : Fin 1) i j (0 : Fin 1)) = Spec.delta (boxAt x1 i) (Spec.union (boxAt x1 i) (boxAt x1 j)) (boxAt x1 i) 3 := by
  simp only [val_main_v195_apply, val_main_v181_apply, val_main_v179_apply, val_main_v159_apply, val_main_v157_apply, val_main_v66_apply, val_main_v64_apply, val_main_v50_apply, val_main_v65_apply, val_main_v54_apply, val_main_v60_apply, val_main_v58_apply, val_main_v48_apply, val_main_v59_apply, val_main_v52_apply, val_main_v158_apply, val_main_cst_25_apply, val_main_v178_apply, val_main_v153_apply, val_main_v151_apply, val_main_v152_apply, val_main_cst_23_apply, val_main_v180_apply, val_main_v165_apply, val_main_v163_apply, val_main_v164_apply, val_main_cst_27_apply, corner_0, corner_1, corner_2, corner_3]
  rfl

/-- The log-ratio of widths of the union against the first box. -/
theorem piece_196 (x1 : Boxes) (i j : Fin 1000) :
    val_main_v196 (F := Ideal) x1 (ix4 (0 : Fin 1) i j (0 : Fin 1)) = Spec.delta (boxAt x1 i) (Spec.union (boxAt x1 i) (boxAt x1 j)) (boxAt x1 i) 4 := by
  simp only [val_main_v196_apply, val_main_v186_apply, val_main_v185_apply, val_main_v183_apply, val_main_v156_apply, val_main_v154_apply, val_main_v63_apply, val_main_v61_apply, val_main_v49_apply, val_main_v62_apply, val_main_v53_apply, val_main_v57_apply, val_main_v55_apply, val_main_v47_apply, val_main_v56_apply, val_main_v51_apply, val_main_v155_apply, val_main_cst_24_apply, val_main_v182_apply, val_main_v150_apply, val_main_v148_apply, val_main_v149_apply, val_main_cst_22_apply, val_main_v184_apply, val_main_cst_28_apply, corner_0, corner_1, corner_2, corner_3]
  rfl

/-- The log-ratio of heights of the union against the first box. -/
theorem piece_197 (x1 : Boxes) (i j : Fin 1000) :
    val_main_v197 (F := Ideal) x1 (ix4 (0 : Fin 1) i j (0 : Fin 1)) = Spec.delta (boxAt x1 i) (Spec.union (boxAt x1 i) (boxAt x1 j)) (boxAt x1 i) 5 := by
  simp only [val_main_v197_apply, val_main_v191_apply, val_main_v190_apply, val_main_v188_apply, val_main_v159_apply, val_main_v157_apply, val_main_v66_apply, val_main_v64_apply, val_main_v50_apply, val_main_v65_apply, val_main_v54_apply, val_main_v60_apply, val_main_v58_apply, val_main_v48_apply, val_main_v59_apply, val_main_v52_apply, val_main_v158_apply, val_main_cst_25_apply, val_main_v187_apply, val_main_v153_apply, val_main_v151_apply, val_main_v152_apply, val_main_cst_23_apply, val_main_v189_apply, val_main_cst_29_apply, corner_0, corner_1, corner_2, corner_3]
  rfl

/-- The six numbers of the union against the first box, side by side. -/
theorem stack_198 (x1 : Boxes) (i j : Fin 1000) (k : Fin 6) :
    val_main_v198 (F := Ideal) x1 (ix4 (0 : Fin 1) i j k) = Spec.delta (boxAt x1 i) (Spec.union (boxAt x1 i) (boxAt x1 j)) (boxAt x1 i) k := by
  refine (stacked_apply (val_main_v192 (F := Ideal) x1) (val_main_v193 (F := Ideal) x1) (val_main_v194 (F := Ideal) x1) (val_main_v195 (F := Ideal) x1) (val_main_v196 (F := Ideal) x1) (val_main_v197 (F := Ideal) x1) i j k).trans ?_
  match k with
  | ⟨0, _⟩ => exact piece_192 x1 i j
  | ⟨1, _⟩ => exact piece_193 x1 i j
  | ⟨2, _⟩ => exact piece_194 x1 i j
  | ⟨3, _⟩ => exact piece_195 x1 i j
  | ⟨4, _⟩ => exact piece_196 x1 i j
  | ⟨5, _⟩ => exact piece_197 x1 i j

/-- The horizontal shift of the union against the second box. -/
theorem piece_255 (x1 : Boxes) (i j : Fin 1000) :
    val_main_v255 (F := Ideal) x1 (ix4 (0 : Fin 1) i j (0 : Fin 1)) = Spec.delta (boxAt x1 j) (Spec.union (boxAt x1 i) (boxAt x1 j)) (boxAt x1 j) 0 := by
  simp only [val_main_v255_apply, val_main_v232_apply, val_main_v230_apply, val_main_v207_apply, val_main_v205_apply, val_main_v57_apply, val_main_v55_apply, val_main_v47_apply, val_main_v56_apply, val_main_v51_apply, val_main_v63_apply, val_main_v61_apply, val_main_v49_apply, val_main_v62_apply, val_main_v53_apply, val_main_v206_apply, val_main_cst_32_apply, val_main_v229_apply, val_main_v201_apply, val_main_v199_apply, val_main_v200_apply, val_main_cst_30_apply, val_main_v231_apply, val_main_v225_apply, val_main_v223_apply, val_main_v224_apply, val_main_cst_38_apply, corner_0, corner_1, corner_2, corner_3]
  rfl

/-- The vertical shift of the union against the second box. -/
theorem piece_256 (x1 : Boxes) (i j : Fin 1000) :
    val_main_v256 (F := Ideal) x1 (ix4 (0 : Fin 1) i j (0 : Fin 1)) = Spec.delta (boxAt x1 j) (Spec.union (boxAt x1 i) (boxAt x1 j)) (boxAt x1 j) 1 := by
  simp only [val_main_v256_apply, val_main_v236_apply, val_main_v234_apply, val_main_v210_apply, val_main_v208_apply, val_main_v60_apply, val_main_v58_apply, val_main_v48_apply, val_main_v59_apply, val_main_v52_apply, val_main_v66_apply, val_main_v64_apply, val_main_v50_apply, val_main_v65_apply, val_main_v54_apply, val_main_v209_apply, val_main_cst_33_apply, val_main_v233_apply, val_main_v204_apply, val_main_v202_apply, val_main_v203_apply, val_main_cst_31_apply, val_main_v235_apply, val_main_v228_apply, val_main_v226_apply, val_main_v227_apply, val_main_cst_39_apply, corner_0, corner_1, corner_2, corner_3]
  rfl

/-- The growth in width of the union against the second box. -/
theorem piece_257 (x1 : Boxes) (i j : Fin 1000) :
    val_main_v257 (F := Ideal) x1 (ix4 (0 : Fin 1) i j (0 : Fin 1)) = Spec.delta (boxAt x1 j) (Spec.union (boxAt x1 i) (boxAt x1 j)) (boxAt x1 j) 2 := by
  simp only [val_main_v257_apply, val_main_v240_apply, val_main_v238_apply, val_main_v219_apply, val_main_v217_apply, val_main_v63_apply, val_main_v61_apply, val_main_v49_apply, val_main_v62_apply, val_main_v53_apply, val_main_v57_apply, val_main_v55_apply, val_main_v47_apply, val_main_v56_apply, val_main_v51_apply, val_main_v218_apply, val_main_cst_36_apply, val_main_v237_apply, val_main_v213_apply, val_main_v211_apply, val_main_v212_apply, val_main_cst_34_apply, val_main_v239_apply, val_main_v225_apply, val_main_v223_apply, val_main_v224_apply, val_main_cst_38_apply, corner_0, corner_1, corner_2, corner_3]
  rfl

/-- The growth in height of the union against the second box. -/
theorem piece_258 (x1 : Boxes) (i j : Fin 1000) :
    val_main_v258 (F := Ideal) x1 (ix4 (0 : Fin 1) i j (0 : Fin 1)) = Spec.delta (boxAt x1 j) (Spec.union (boxAt x1 i) (boxAt x1 j)) (boxAt x1 j) 3 := by
  simp only [val_main_v258_apply, val_main_v244_apply, val_main_v242_apply, val_main_v222_apply, val_main_v220_apply, val_main_v66_apply, val_main_v64_apply, val_main_v50_apply, val_main_v65_apply, val_main_v54_apply, val_main_v60_apply, val_main_v58_apply, val_main_v48_apply, val_main_v59_apply, val_main_v52_apply, val_main_v221_apply, val_main_cst_37_apply, val_main_v241_apply, val_main_v216_apply, val_main_v214_apply, val_main_v215_apply, val_main_cst_35_apply, val_main_v243_apply, val_main_v228_apply, val_main_v226_apply, val_main_v227_apply, val_main_cst_39_apply, corner_0, corner_1, corner_2, corner_3]
  rfl

/-- The log-ratio of widths of the union against the second box. -/
theorem piece_259 (x1 : Boxes) (i j : Fin 1000) :
    val_main_v259 (F := Ideal) x1 (ix4 (0 : Fin 1) i j (0 : Fin 1)) = Spec.delta (boxAt x1 j) (Spec.union (boxAt x1 i) (boxAt x1 j)) (boxAt x1 j) 4 := by
  simp only [val_main_v259_apply, val_main_v249_apply, val_main_v248_apply, val_main_v246_apply, val_main_v219_apply, val_main_v217_apply, val_main_v63_apply, val_main_v61_apply, val_main_v49_apply, val_main_v62_apply, val_main_v53_apply, val_main_v57_apply, val_main_v55_apply, val_main_v47_apply, val_main_v56_apply, val_main_v51_apply, val_main_v218_apply, val_main_cst_36_apply, val_main_v245_apply, val_main_v213_apply, val_main_v211_apply, val_main_v212_apply, val_main_cst_34_apply, val_main_v247_apply, val_main_cst_40_apply, corner_0, corner_1, corner_2, corner_3]
  rfl

/-- The log-ratio of heights of the union against the second box. -/
theorem piece_260 (x1 : Boxes) (i j : Fin 1000) :
    val_main_v260 (F := Ideal) x1 (ix4 (0 : Fin 1) i j (0 : Fin 1)) = Spec.delta (boxAt x1 j) (Spec.union (boxAt x1 i) (boxAt x1 j)) (boxAt x1 j) 5 := by
  simp only [val_main_v260_apply, val_main_v254_apply, val_main_v253_apply, val_main_v251_apply, val_main_v222_apply, val_main_v220_apply, val_main_v66_apply, val_main_v64_apply, val_main_v50_apply, val_main_v65_apply, val_main_v54_apply, val_main_v60_apply, val_main_v58_apply, val_main_v48_apply, val_main_v59_apply, val_main_v52_apply, val_main_v221_apply, val_main_cst_37_apply, val_main_v250_apply, val_main_v216_apply, val_main_v214_apply, val_main_v215_apply, val_main_cst_35_apply, val_main_v252_apply, val_main_cst_41_apply, corner_0, corner_1, corner_2, corner_3]
  rfl

/-- The six numbers of the union against the second box, side by side. -/
theorem stack_261 (x1 : Boxes) (i j : Fin 1000) (k : Fin 6) :
    val_main_v261 (F := Ideal) x1 (ix4 (0 : Fin 1) i j k) = Spec.delta (boxAt x1 j) (Spec.union (boxAt x1 i) (boxAt x1 j)) (boxAt x1 j) k := by
  refine (stacked_apply (val_main_v255 (F := Ideal) x1) (val_main_v256 (F := Ideal) x1) (val_main_v257 (F := Ideal) x1) (val_main_v258 (F := Ideal) x1) (val_main_v259 (F := Ideal) x1) (val_main_v260 (F := Ideal) x1) i j k).trans ?_
  match k with
  | ⟨0, _⟩ => exact piece_255 x1 i j
  | ⟨1, _⟩ => exact piece_256 x1 i j
  | ⟨2, _⟩ => exact piece_257 x1 i j
  | ⟨3, _⟩ => exact piece_258 x1 i j
  | ⟨4, _⟩ => exact piece_259 x1 i j
  | ⟨5, _⟩ => exact piece_260 x1 i j

/-- Three arrays with a last axis of length 6, side by side along it. -/
theorem thirds_apply (p0 p1 p2 : S1x1000x1000x6.Idx → EReal) (i j : Fin 1000) (q : Fin 3) (k : Fin 6) (l : Fin 18)
    (hl : 6 * q.val + k.val = l.val) :
    concatenate S1x1000x1000x18 3 [⟨S1x1000x1000x6, p0⟩, ⟨S1x1000x1000x6, p1⟩, ⟨S1x1000x1000x6, p2⟩]
        concatenates_S1x1000x1000x6_S1x1000x1000x6_S1x1000x1000x6_S1x1000x1000x18_d3 (ix4 (0 : Fin 1) i j l)
      = (![p0, p1, p2] q) (ix4 (0 : Fin 1) i j k) := by
  refine concatenate_apply_piece (t := S1x1000x1000x18) 3 [⟨S1x1000x1000x6, p0⟩, ⟨S1x1000x1000x6, p1⟩, ⟨S1x1000x1000x6, p2⟩]
    concatenates_S1x1000x1000x6_S1x1000x1000x6_S1x1000x1000x6_S1x1000x1000x18_d3 (ix4 (0 : Fin 1) i j l) q.val q.isLt S1x1000x1000x6
    (![p0, p1, p2] q) ?_ rfl (6 * q.val) ?_ (ix4 (0 : Fin 1) i j k) (fun b hb => by
      match b with
      | ⟨0, _⟩ => rfl
      | ⟨1, _⟩ => rfl
      | ⟨2, _⟩ => rfl
      | ⟨3, _⟩ => exact absurd rfl hb) hl
  all_goals
    match q with
    | ⟨0, _⟩ => rfl
    | ⟨1, _⟩ => rfl
    | ⟨2, _⟩ => rfl

/-- Eighteen numbers listed as three sixes. -/
theorem listed {α : Type} (D : Fin 3 → Fin 6 → α) (q : Fin 3) (k : Fin 6) (h : 6 * q.val + k.val < 18) :
    D q k = (![D 0 0, D 0 1, D 0 2, D 0 3, D 0 4, D 0 5, D 1 0, D 1 1, D 1 2, D 1 3, D 1 4, D 1 5,
      D 2 0, D 2 1, D 2 2, D 2 3, D 2 4, D 2 5] : Fin 18 → α) ⟨6 * q.val + k.val, h⟩ := by
  match q with
  | ⟨0, _⟩ => match k with | ⟨0, _⟩ => rfl | ⟨1, _⟩ => rfl | ⟨2, _⟩ => rfl | ⟨3, _⟩ => rfl | ⟨4, _⟩ => rfl | ⟨5, _⟩ => rfl
  | ⟨1, _⟩ => match k with | ⟨0, _⟩ => rfl | ⟨1, _⟩ => rfl | ⟨2, _⟩ => rfl | ⟨3, _⟩ => rfl | ⟨4, _⟩ => rfl | ⟨5, _⟩ => rfl
  | ⟨2, _⟩ => match k with | ⟨0, _⟩ => rfl | ⟨1, _⟩ => rfl | ⟨2, _⟩ => rfl | ⟨3, _⟩ => rfl | ⟨4, _⟩ => rfl | ⟨5, _⟩ => rfl

/-- The three sixes of a pair's features: the second box against the first, and the union against each. -/
def sixes (a b : Spec.Box) : Fin 3 → Fin 6 → EReal :=
  ![Spec.delta a b a, Spec.delta a (Spec.union a b) a, Spec.delta b (Spec.union a b) b]

/-- The eighteen features, by their six. -/
theorem feats_sixes (a b : Spec.Box) (q : Fin 3) (k : Fin 6) (h : 6 * q.val + k.val < 18) :
    sixes a b q k = Spec.feats a b ⟨6 * q.val + k.val, h⟩ := by
  refine (listed (sixes a b) q k h).trans ?_
  unfold Spec.feats sixes
  generalize Spec.delta = D
  rfl

/-- The eighteen features of a pair. -/
theorem feats_apply (x1 : Boxes) (i j : Fin 1000) (l : Fin 18) :
    val_main_v262 (F := Ideal) x1 (ix4 (0 : Fin 1) i j l) = Spec.feats (boxAt x1 i) (boxAt x1 j) l := by
  obtain ⟨q, k, hl⟩ : ∃ (q : Fin 3) (k : Fin 6), 6 * q.val + k.val = l.val :=
    ⟨⟨l.val / 6, by omega⟩, ⟨l.val % 6, by omega⟩, Nat.div_add_mod l.val 6⟩
  refine (thirds_apply (val_main_v135 (F := Ideal) x1) (val_main_v198 (F := Ideal) x1) (val_main_v261 (F := Ideal) x1) i j q k l hl).trans ?_
  refine Eq.trans ?_ ((feats_sixes (boxAt x1 i) (boxAt x1 j) q k (by omega)).trans (congrArg _ (Fin.ext hl)))
  match q with
  | ⟨0, _⟩ => exact stack_135 x1 i j k
  | ⟨1, _⟩ => exact stack_198 x1 i j k
  | ⟨2, _⟩ => exact stack_261 x1 i j k

end Cert.ReferenceIdeal.Hand

end
-- ==== Proof.RefValue.lean ====
/- The reference's result, one entry at a time: normalised and projected rows, their scaled product, the network over a
   pair's features, and the penalty on the diagonal. -/
module

public import proofs.«01_k».proof.Proof.Gen.ReferenceIdeal.Read
public import proofs.«01_k».proof.Proof.Spec
public import Idealize.ShloMosaic.Lib.ValueIdx
public import Idealize.ShloMosaic.Lib.Pipeline.Value
public import Idealize.ShloMosaic.PureOps.Ideal.Laws
public import proofs.«01_k».proof.Proof.RefFeatures

@[expose] public section

set_option maxRecDepth 16384

noncomputable section

namespace Cert.ReferenceIdeal.Hand

open Idealize.ShloMosaic Idealize.ShloMosaic.ValueIdx Cert.ReferenceIdeal Cert.ReferenceIdeal.Gen Cert.ReferenceIdeal.Read

/-- Row `i` of the features. -/
def rowAt (x0 : (⟨S1x1000x768, .f32⟩ : BufTy).Contents (Elt Ideal)) (i : Fin 1000) : Fin 768 → EReal := fun d => x0 (ix3 (0 : Fin 1) i d)

/-- A vector of the model's width. -/
def vec (v : (⟨S768, .f32⟩ : BufTy).Contents (Elt Ideal)) : Fin 768 → EReal := fun d => v (ix1 d)

/-- A square matrix of the model's width. -/
def mat (w : (⟨S768x768, .f32⟩ : BufTy).Contents (Elt Ideal)) : Fin 768 → Fin 768 → EReal := fun d n => w (ix2 d n)

/-- The network's first matrix. -/
def mat1 (w : (⟨S18x1024, .f32⟩ : BufTy).Contents (Elt Ideal)) : Fin 18 → Fin 1024 → EReal := fun k m => w (ix2 k m)

/-- The network's first bias. -/
def bias1 (v : (⟨S1024, .f32⟩ : BufTy).Contents (Elt Ideal)) : Fin 1024 → EReal := fun m => v (ix1 m)

/-- The network's second matrix, one column. -/
def col2 (w : (⟨S1024x1, .f32⟩ : BufTy).Contents (Elt Ideal)) : Fin 1024 → EReal := fun m => w (ix2 m (0 : Fin 1))

/-- The output bias. -/
def bias2 (v : (⟨S1, .f32⟩ : BufTy).Contents (Elt Ideal)) : EReal := v (ix1 (0 : Fin 1))

/-- The word of positive zero is zero. -/
theorem zero_word : (FloatOps.ofBits (F := Ideal) .f32 0x00000000#32) = (0 : EReal) := Consts.zero_f32

/-- An index whose first axis has one element, by its other two coordinates. -/
theorem at3 {n m : Nat} (p : (⟨3, ![1, n, m]⟩ : Shape).Idx) : p = ix3 (0 : Fin 1) (p 1) (p 2) := by
  funext a
  match a with
  | ⟨0, _⟩ => exact Subsingleton.elim (α := Fin 1) _ _
  | ⟨1, _⟩ => rfl
  | ⟨2, _⟩ => rfl

/-- The same with one more axis. -/
theorem at4 {n m l : Nat} (p : (⟨4, ![1, n, m, l]⟩ : Shape).Idx) : p = ix4 (0 : Fin 1) (p 1) (p 2) (p 3) := by
  funext a
  match a with
  | ⟨0, _⟩ => exact Subsingleton.elim (α := Fin 1) _ _
  | ⟨1, _⟩ => rfl
  | ⟨2, _⟩ => rfl
  | ⟨3, _⟩ => rfl

section

variable (x0 : (⟨S1x1000x768, .f32⟩ : BufTy).Contents (Elt Ideal)) (x1 : Boxes) (x2 x3 : (⟨S768, .f32⟩ : BufTy).Contents (Elt Ideal))
  (x4 : (⟨S768x768, .f32⟩ : BufTy).Contents (Elt Ideal)) (x5 : (⟨S768, .f32⟩ : BufTy).Contents (Elt Ideal))
  (x6 x7 : (⟨S768x768, .f32⟩ : BufTy).Contents (Elt Ideal)) (x8 : (⟨S18x1024, .f32⟩ : BufTy).Contents (Elt Ideal))
  (x9 : (⟨S1024, .f32⟩ : BufTy).Contents (Elt Ideal)) (x10 : (⟨S1024x1, .f32⟩ : BufTy).Contents (Elt Ideal))
  (x11 : (⟨S1, .f32⟩ : BufTy).Contents (Elt Ideal))

/-- An entry of the features, by its row. -/
theorem rowAt_at (p : S1x1000x768.Idx) : x0 p = rowAt x0 (p 1) (p 2) := congrArg x0 (at3 p)

/-- An entry of a vector. -/
theorem vec_at (v : (⟨S768, .f32⟩ : BufTy).Contents (Elt Ideal)) (p : S768.Idx) : v p = vec v (p 0) := congrArg v (eq_ix1 p)

/-- An entry of a square matrix. -/
theorem mat_at (w : (⟨S768x768, .f32⟩ : BufTy).Contents (Elt Ideal)) (p : S768x768.Idx) : w p = mat w (p 0) (p 1) :=
  congrArg w (eq_ix2 p)

/-- An entry of the network's first matrix. -/
theorem mat1_at (p : S18x1024.Idx) : x8 p = mat1 x8 (p 0) (p 1) := congrArg x8 (eq_ix2 p)

/-- An entry of the network's first bias. -/
theorem bias1_at (p : S1024.Idx) : x9 p = bias1 x9 (p 0) := congrArg x9 (eq_ix1 p)

/-- An entry of the network's second matrix. -/
theorem col2_at (p : S1024x1.Idx) : x10 p = col2 x10 (p 0) :=
  congrArg x10 ((eq_ix2 p).trans (Shape.idx_ext₂ rfl (congrArg Fin.val (Subsingleton.elim (α := Fin 1) (p 1) 0))))

/-- The one entry of the output bias. -/
theorem bias2_at (p : S1.Idx) : x11 p = bias2 x11 :=
  congrArg x11 ((eq_ix1 p).trans (congrArg ix1 (Subsingleton.elim (α := Fin 1) (p 0) 0)))

/-- The mean of a row. -/
theorem mean_at (p : S1x1000x1.Idx) : val_main_v3 (F := Ideal) x0 p = Spec.mean (rowAt x0 (p 1)) := by
  simp only [val_main_v3_apply, val_main_v1_apply, val_main_v2_apply, val_main_cst_0_apply, val_main_v0_apply, val_main_cst_apply, rowAt_at x0]
  refine (congrArg (fun z : EReal => Ideal.div (z + _) _) Consts.zero_f32).trans ?_
  refine (congrArg (fun z : EReal => Ideal.div z _) (zero_add _)).trans ?_
  rfl

/-- The mean squared deviation of a row. -/
theorem var_at (p : S1x1000x1.Idx) : val_main_v12 (F := Ideal) x0 p = Spec.var (rowAt x0 (p 1)) := by
  simp only [val_main_v12_apply, val_main_v10_apply, val_main_v11_apply, val_main_cst_2_apply, val_main_v9_apply, val_main_cst_1_apply, val_main_v8_apply, val_main_v7_apply, val_main_v5_apply, val_main_v4_apply, val_main_v6_apply, mean_at, rowAt_at x0]
  refine (congrArg (fun z : EReal => Ideal.div (z + _) _) Consts.zero_f32).trans ?_
  refine (congrArg (fun z : EReal => Ideal.div z _) (zero_add _)).trans ?_
  rfl

/-- A row normalised, scaled and shifted, at a pair of coordinates. -/
theorem norm_apply (i : Fin 1000) (d : Fin 768) :
    val_main_v25 (F := Ideal) x0 x2 x3 (ix3 (0 : Fin 1) i d) = Spec.norm (rowAt x0 i) (vec x2) (vec x3) d := by
  simp only [val_main_v25_apply, val_main_v24_apply, val_main_v23_apply, val_main_v22_apply, val_main_v21_apply, val_main_v20_apply, val_main_v19_apply, val_main_v18_apply, val_main_v17_apply, val_main_v16_apply, val_main_v15_apply, val_main_cst_3_apply, val_main_v14_apply, val_main_v13_apply, mean_at, var_at, rowAt_at x0, vec_at x2, vec_at x3]
  rfl

/-- The same at any index. -/
theorem norm_at (p : S1x1000x768.Idx) :
    val_main_v25 (F := Ideal) x0 x2 x3 p = Spec.norm (rowAt x0 (p 1)) (vec x2) (vec x3) (p 2) :=
  (congrArg (val_main_v25 (F := Ideal) x0 x2 x3) (at3 p)).trans (norm_apply x0 x2 x3 (p 1) (p 2))

/-- The rectified projection of a row. -/
theorem proj_at (p : S1x1000x768.Idx) :
    val_main_v31 (F := Ideal) x0 x2 x3 x4 x5 p = Spec.proj (rowAt x0 (p 1)) (vec x2) (vec x3) (mat x4) (vec x5) (p 2) := by
  simp only [val_main_v31_apply, val_main_v30_apply, val_main_cst_4_apply, val_main_v29_apply, val_main_v28_apply, val_main_v27_apply, val_main_v26_apply, norm_at, mat_at x4, vec_at x5]
  refine (congrArg (fun z : EReal => max _ z) Consts.zero_f32).trans ?_
  rfl

/-- A row's query. -/
theorem query_at (p : S1x1000x768.Idx) :
    val_main_v32 (F := Ideal) x0 x2 x3 x4 x5 x6 p =
      Spec.lin (Spec.proj (rowAt x0 (p 1)) (vec x2) (vec x3) (mat x4) (vec x5)) (mat x6) (p 2) := by
  simp only [val_main_v32_apply, proj_at, mat_at x6]
  rfl

/-- A row's key. -/
theorem key_at (p : S1x1000x768.Idx) :
    val_main_v33 (F := Ideal) x0 x2 x3 x4 x5 x7 p =
      Spec.lin (Spec.proj (rowAt x0 (p 1)) (vec x2) (vec x3) (mat x4) (vec x5)) (mat x7) (p 2) := by
  simp only [val_main_v33_apply, proj_at, mat_at x7]
  rfl

/-- The scaled product of a query and a key. -/
theorem score_apply (i j : Fin 1000) :
    val_main_v38 (F := Ideal) x0 x2 x3 x4 x5 x6 x7 (ix3 (0 : Fin 1) i j) =
      Spec.score (Spec.lin (Spec.proj (rowAt x0 i) (vec x2) (vec x3) (mat x4) (vec x5)) (mat x6))
        (Spec.lin (Spec.proj (rowAt x0 j) (vec x2) (vec x3) (mat x4) (vec x5)) (mat x7)) := by
  simp only [val_main_v38_apply, val_main_v37_apply, val_main_v36_apply, val_main_v35_apply, val_main_cst_5_apply, val_main_v34_apply, query_at, key_at]
  rfl

/-- The features of a pair, at any index. -/
theorem feats_at (p : S1x1000x1000x18.Idx) :
    val_main_v262 (F := Ideal) x1 p = Spec.feats (boxAt x1 (p 1)) (boxAt x1 (p 2)) (p 3) :=
  (congrArg (val_main_v262 (F := Ideal) x1) (at4 p)).trans (feats_apply x1 (p 1) (p 2) (p 3))

/-- One rectified unit of the network. -/
theorem unit_at (p : S1x1000x1000x1024.Idx) :
    val_main_v268 (F := Ideal) x1 x8 x9 p =
      max ((∑ k, Spec.feats (boxAt x1 (p 1)) (boxAt x1 (p 2)) k * mat1 x8 k (p 3)) + bias1 x9 (p 3)) 0 := by
  simp only [val_main_v268_apply, val_main_v267_apply, val_main_cst_42_apply, val_main_v266_apply, val_main_v265_apply, val_main_v264_apply, val_main_v263_apply, feats_at, mat1_at x8, bias1_at x9]
  refine (congrArg (fun z : EReal => max _ z) Consts.zero_f32).trans ?_
  rfl

/-- The network over a pair's features, with the output bias. -/
theorem net_apply (i j : Fin 1000) :
    val_main_v273 (F := Ideal) x1 x8 x9 x10 x11 (ix3 (0 : Fin 1) i j) =
      (Spec.net (mat1 x8) (bias1 x9) (col2 x10) (Spec.feats (boxAt x1 i) (boxAt x1 j)) + bias2 x11 : EReal) := by
  have e : idx_main_v273 (ix3 (0 : Fin 1) i j) = ix4 (0 : Fin 1) i j (0 : Fin 1) := by
    have hi := i.isLt
    have hj := j.isLt
    refine funext fun a => Fin.ext ?_
    match a with
    | ⟨0, _⟩ => rfl
    | ⟨1, _⟩ => show ((0 * 1000 + i.val) * 1000 + j.val) / 1000 % 1000 = i.val; omega
    | ⟨2, _⟩ => show ((0 * 1000 + i.val) * 1000 + j.val) / 1 % 1000 = j.val; omega
    | ⟨3, _⟩ => rfl
  rw [val_main_v273_apply, e]
  simp only [val_main_v272_apply, val_main_v271_apply, val_main_v270_apply, val_main_v269_apply, unit_at, col2_at x10, bias2_at x11]
  rfl

/-- One where row and column agree, zero elsewhere. -/
theorem diag_apply (i j : Fin 1000) :
    val_main_v281 (F := Ideal) (ix3 (0 : Fin 1) i j) = (if i.val = j.val then 1 else 0 : EReal) := by
  have hi := i.isLt
  have hj := j.isLt
  simp only [val_main_v281_apply, val_main_v280_apply, val_main_v279_apply, val_main_v278_apply, val_main_v277_apply, val_main_v276_apply, val_main_v275_apply, val_main_c_apply]
  show (((BitVec.ofBool (BitVec.ofNat 32 i.val + 0#32 == BitVec.ofNat 32 j.val)).toNat : ℝ) : EReal) = _
  by_cases h : i.val = j.val
  · rw [if_pos h, h]; simp
  · have e : (BitVec.ofNat 32 i.val + 0#32 == BitVec.ofNat 32 j.val) = false := by
      rw [beq_eq_false_iff_ne]
      intro hh
      apply h
      have := congrArg BitVec.toNat hh
      rw [BitVec.add_zero, BitVec.toNat_ofNat, BitVec.toNat_ofNat] at this
      omega
    rw [if_neg h, e]; simp

/-- One entry of the reference's result. -/
theorem result_apply (i j : Fin 1000) :
    val_main_v284 (F := Ideal) x0 x1 x2 x3 x4 x5 x6 x7 x8 x9 x10 x11 (ix3 (0 : Fin 1) i j) =
      Spec.entry (Spec.lin (Spec.proj (rowAt x0 i) (vec x2) (vec x3) (mat x4) (vec x5)) (mat x6))
        (Spec.lin (Spec.proj (rowAt x0 j) (vec x2) (vec x3) (mat x4) (vec x5)) (mat x7))
        (Spec.net (mat1 x8) (bias1 x9) (col2 x10) (Spec.feats (boxAt x1 i) (boxAt x1 j))) (bias2 x11)
        (i.val = j.val) := by
  simp only [val_main_v284_apply, val_main_v283_apply, val_main_v282_apply, val_main_cst_43_apply, val_main_v274_apply, score_apply, net_apply, diag_apply]
  rfl

end

end Cert.ReferenceIdeal.Hand

end
-- ==== Proof.Equation.lean ====
/- The kernel's result is the reference's, element by element, where every output weight is finite. -/
module

public import proofs.«01_k».proof.Defs
public import proofs.«01_k».proof.Proof.KernelValue
public import proofs.«01_k».proof.Proof.RefValue

@[expose] public section

set_option maxRecDepth 16384

noncomputable section

namespace Cert.Equation

open Idealize.ShloMosaic Idealize.ShloMosaic.ValueIdx Idealize.ShloMosaic.TcCoe

/-- The side condition of the precondition's text. -/
instance preFacts : Cert.Pre_w2_finite.Facts := ⟨by decide⟩

/-- An extended real whose absolute value is below the top is a real. -/
theorem real_of_abs_lt (x : EReal) (h : max x (-x) < ⊤) : ∃ r : ℝ, x = (r : EReal) := by
  induction x with
  | bot => simp at h
  | top => simp at h
  | coe r => exact ⟨r, rfl⟩

/-- The precondition at a device: every output weight is a real. -/
theorem weights_real (x0 : FVec Ideal Cert.Pre_w2_finite.S1x1000x768 .f32) (x1 : FVec Ideal Cert.Pre_w2_finite.S1x1000x4 .f32)
    (x2 x3 : FVec Ideal Cert.Pre_w2_finite.S768 .f32) (x4 : FVec Ideal Cert.Pre_w2_finite.S768x768 .f32)
    (x5 : FVec Ideal Cert.Pre_w2_finite.S768 .f32) (x6 x7 : FVec Ideal Cert.Pre_w2_finite.S768x768 .f32)
    (x8 : FVec Ideal Cert.Pre_w2_finite.S18x1024 .f32) (x9 : FVec Ideal Cert.Pre_w2_finite.S1024 .f32)
    (x10 : FVec Ideal Cert.Pre_w2_finite.S1024x1 .f32) (x11 : FVec Ideal Cert.Pre_w2_finite.S1 .f32)
    (h : Cert.Pre_w2_finite.fn (F := Ideal) x0 x1 x2 x3 x4 x5 x6 x7 x8 x9 x10 x11 = fun _ => 1#1) :
    ∃ w : Fin 1024 → ℝ, ∀ k, x10 (ix2 k 0) = (w k : EReal) := by
  have each : ∀ k : Fin 1024, ∃ r : ℝ, x10 (ix2 k 0) = (r : EReal) := fun k => by
    have hk := congrFun h (ix2 k 0)
    have hk' : BitVec.ofBool (decide (max (x10 (ix2 k 0)) (-(x10 (ix2 k 0))) < Ideal.ofBits .f32 0x7F800000#32)) = 1#1 := hk
    rw [Consts.top_f32] at hk'
    refine real_of_abs_lt _ ?_
    by_contra hn
    rw [decide_eq_false hn] at hk'
    exact absurd hk' (by decide)
  exact ⟨fun k => (each k).choose, fun k => (each k).choose_spec⟩

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

open Cert.KernelIdeal.Hand in
/-- The reference's value at the kernel's arguments is what the kernel leaves in its result array. -/
theorem result_eq (w : Fin 1024 → ℝ) (hw : ∀ k, arg10 m c (ix2 k 0) = (w k : EReal)) :
    Cert.ReferenceIdeal.Read.val_main_v284 (F := Ideal) (arg0 m c) (arg1 m c) (arg2 m c) (arg3 m c) (arg4 m c) (arg5 m c) (arg6 m c)
        (arg7 m c) (arg8 m c) (arg9 m c) (arg10 m c) (arg11 m c)
      = Cert.KernelIdeal.Gen.W9 m ρ c (Proc.devRef .tc Cert.KernelIdeal.main_v41) := by
  funext p
  rw [Cert.ReferenceIdeal.Hand.at3 p]
  exact (Cert.ReferenceIdeal.Hand.result_apply _ _ _ _ _ _ _ _ _ _ _ _ (p 1) (p 2)).trans
    (Cert.KernelIdeal.Hand.result_apply m ρ c w hw (p 1) (p 2)).symm

end Cert.Equation

end
-- ==== Proof.lean ====
/- The five claims: the two programs and the reference run to the end, leave the arguments as they were and every counter at
   zero; the named scale is the number it stands for; and the kernel's result is the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel keeps its arguments. -/
theorem frame_p : Cert.quiescent_Kernel (hKernel := Cert.Kernel.Gen.facts) :=
  fun m ρ _ => Cert.Kernel.Gen.frame m ρ

/-- The kernel with its scale named keeps its arguments. -/
theorem frame_pi : Cert.quiescent_KernelIdeal (hKernelIdeal := Cert.KernelIdeal.Gen.facts) :=
  fun m ρ _ => Cert.KernelIdeal.Gen.frame m ρ

/-- The same under the precondition. -/
theorem frame_pi_pre : Cert.quiescent_KernelIdeal_pre_w2_finite (hKernelIdeal := Cert.KernelIdeal.Gen.facts)
    (hPre_w2_finite := Cert.Equation.preFacts) :=
  fun m ρ _ => Cert.KernelIdeal.Gen.frame m ρ

/-- The reference keeps its arguments. -/
theorem frame_ri : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The same under the precondition. -/
theorem frame_ri_pre : Cert.quiescent_ReferenceIdeal_pre_w2_finite (hReferenceIdeal := Cert.ReferenceIdeal.Gen.facts)
    (hPre_w2_finite := Cert.Equation.preFacts) := fun m ρ _ => frame_ri m ρ trivial

/-- The named scale is the number it stands for. -/
theorem preserves : Cert.preserves_Kernel_KernelIdeal :=
  IdealRules.named_const.statement Cert.KernelIdeal.κ "inv_sqrt_h" .f32 0x3D13CD3A#32 (((Real.sqrt 768)⁻¹ : ℝ) : EReal) rfl

/-- The kernel's result is the reference's. -/
theorem algebraic : Cert.algebraic_KernelIdeal_ReferenceIdeal_pre_w2_finite (hKernelIdeal := Cert.KernelIdeal.Gen.facts)
    (hReferenceIdeal := Cert.ReferenceIdeal.Gen.facts) (hPre_w2_finite := Cert.Equation.preFacts) := by
  intro m ρ m' ρ' hpre hagree
  refine ⟨fun c => Cert.KernelIdeal.Gen.W9 m ρ c (Proc.devRef .tc Cert.KernelIdeal.main_v41), ?_, ?_⟩
  · exact (θ_run Cert.KernelIdeal.defs _ _).mono (fun _ h => h.1) (Cert.KernelIdeal.Hand.run (F := Ideal) m ρ)
  · refine (θ_run Cert.ReferenceIdeal.defs _ _).mono (fun _ h c => ⟨(h c).1.trans ?_, (h c).2⟩)
      (Cert.ReferenceIdeal.Value.run (F := Ideal) m' ρ')
    obtain ⟨w, hw⟩ := Cert.Equation.weights_real _ _ _ _ _ _ _ _ _ _ _ _ (hpre c)
    obtain ⟨h0, h1, h2, h3, h4, h5, h6, h7, h8, h9, h10, h11⟩ := hagree c
    refine (Cert.ReferenceIdeal.Read.val_main_v284_eq (F := Ideal) (StableHlo.launchContents m' c)).trans ?_
    show Cert.ReferenceIdeal.Read.val_main_v284 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) = _
    rw [h0, h1, h2, h3, h4, h5, h6, h7, h8, h9, h10, h11]
    exact Cert.Equation.result_eq m ρ c w hw

theorem claim : Cert.Claim := ⟨Cert.Kernel.Gen.facts, Cert.KernelIdeal.Gen.facts, Cert.ReferenceIdeal.Gen.facts,
  Cert.Equation.preFacts, frame_p, frame_pi, frame_pi_pre, frame_ri, frame_ri_pre, preserves, algebraic⟩

end Cert.Proof

end
